-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![65536, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S4096x512 : Shape := ⟨2, ![4096, 512]⟩
abbrev S16x64 : Shape := ⟨2, ![16, 64]⟩
abbrev S_ : Shape := ⟨0, ![]⟩

class Facts : Prop where
  bcast_S_S16x64 : S_.BroadcastsInDim S16x64 (![] : Fin 0 → Fin S16x64.rank)

variable [Facts]

def fn {F : FTy → Type} [FloatOps F] (main_arg0 : FVec F S4096x512 .f32) (main_arg1 : IVec S16x64 32) : IVec S16x64 1 :=
  let main_c : IVec S_ 32 := constantI S_ 32 0#32
  let main_v0 : IVec S16x64 32 := broadcastInDim S16x64 ![] bcast_S_S16x64 main_c
  let main_v1 : IVec S16x64 1 := cmpi .sge main_arg1 main_v0
  let main_c_0 : IVec S_ 32 := constantI S_ 32 65536#32
  let main_v2 : IVec S16x64 32 := broadcastInDim S16x64 ![] bcast_S_S16x64 main_c_0
  let main_v3 : IVec S16x64 1 := cmpi .slt main_arg1 main_v2
  let main_v4 : IVec S16x64 1 := andi main_v1 main_v3
  main_v4
-- ==== Pre_in_range_ReferenceIdeal.lean ====
abbrev S65536x512 : Shape := ⟨2, ![65536, 512]⟩
abbrev S16x64 : Shape := ⟨2, ![16, 64]⟩
abbrev S_ : Shape := ⟨0, ![]⟩

class Facts : Prop where
  bcast_S_S16x64 : S_.BroadcastsInDim S16x64 (![] : Fin 0 → Fin S16x64.rank)

variable [Facts]

def fn {F : FTy → Type} [FloatOps F] (main_arg0 : FVec F S65536x512 .f32) (main_arg1 : IVec S16x64 32) : IVec S16x64 1 :=
  let main_c : IVec S_ 32 := constantI S_ 32 0#32
  let main_v0 : IVec S16x64 32 := broadcastInDim S16x64 ![] bcast_S_S16x64 main_c
  let main_v1 : IVec S16x64 1 := cmpi .sge main_arg1 main_v0
  let main_c_0 : IVec S_ 32 := constantI S_ 32 65536#32
  let main_v2 : IVec S16x64 32 := broadcastInDim S16x64 ![] bcast_S_S16x64 main_c_0
  let main_v3 : IVec S16x64 1 := cmpi .slt main_arg1 main_v2
  let main_v4 : IVec S16x64 1 := andi main_v1 main_v3
  main_v4
-- ==== Kernel.lean ====
abbrev S4096x512 : Shape := ⟨2, ![4096, 512]⟩
abbrev S16x64 : Shape := ⟨2, ![16, 64]⟩
abbrev S1024x512 : Shape := ⟨2, ![1024, 512]⟩
abbrev S16x64x512 : Shape := ⟨3, ![16, 64, 512]⟩
abbrev S64x512 : Shape := ⟨2, ![64, 512]⟩
abbrev S16 : Shape := ⟨1, ![16]⟩
abbrev S_ : Shape := ⟨0, ![]⟩
abbrev S64x4096 : Shape := ⟨2, ![64, 4096]⟩
abbrev S1x64 : Shape := ⟨2, ![1, 64]⟩
abbrev S64x1 : Shape := ⟨2, ![64, 1]⟩
abbrev S1x64x512 : Shape := ⟨3, ![1, 64, 512]⟩
abbrev S1 : Shape := ⟨1, ![1]⟩

abbrev nBuf : Space → Nat
  | .hbm => 3
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S16x64, .i32⟩
  | .hbm, ⟨2, _⟩ => ⟨S1024x512, .f32⟩
  | .local _ .vmem, ⟨0, _⟩ => ⟨S16x64, .i32⟩
  | .local _ .vmem, ⟨1, _⟩ => ⟨S4096x512, .f32⟩
  | .local _ .vmem, ⟨2, _⟩ => ⟨S1024x512, .f32⟩
  | .local _ .vmem, ⟨3, _⟩ => ⟨S4096x512, .bf16⟩
  | .local _ .vmem, ⟨4, _⟩ => ⟨S16x64x512, .f32⟩
  | .local _ .vmem, ⟨5, _⟩ => ⟨S16x64x512, .f32⟩
  | .local _ .vmem, ⟨6, _⟩ => ⟨S64x512, .f32⟩
  | .local _ .vmem, ⟨7, _⟩ => ⟨S16x64x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_139 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v207 : BitVec 32 := Scalar.addi v2 c1_i32_139
  let c16_i32_140 : BitVec 32 := 16#32
  let c0_i32_141 : BitVec 32 := 0#32
  let v208 : BitVec 1 := Scalar.cmpi .eq c16_i32_140 c0_i32_141
  let c1_i32_142 : BitVec 32 := 1#32
  let v209 : BitVec 32 := Scalar.select v208 c1_i32_142 c16_i32_140
  let v210 : BitVec 32 := Scalar.remsi v207 v209
  let c0_i32_144 : BitVec 32 := 0#32
  let v212 : BitVec 1 := Scalar.cmpi .slt v210 c0_i32_144
  let c0_i32_145 : BitVec 32 := 0#32
  let v213 : BitVec 1 := Scalar.cmpi .slt v209 c0_i32_145
  let v214 : BitVec 1 := Scalar.xori v212 v213
  let c0_i32_143 : BitVec 32 := 0#32
  let v211 : BitVec 1 := Scalar.cmpi .ne v210 c0_i32_143
  let v215 : BitVec 1 := Scalar.andi v214 v211
  let v216 : BitVec 32 := Scalar.addi v210 v209
  let v217 : BitVec 32 := Scalar.select v215 v216 v210
  let v218 : Index := Scalar.indexCast v217
  let c0_146 : Index := 0#32
  ![v218.toNat, 0]
def k0_dev16 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_139 : BitVec 32 := 1#32
  let v207 : BitVec 32 := Scalar.addi v2 c1_i32_139
  let c16_i32_140 : BitVec 32 := 16#32
  let c0_i32_141 : BitVec 32 := 0#32
  let v208 : BitVec 1 := Scalar.cmpi .eq c16_i32_140 c0_i32_141
  let c1_i32_142 : BitVec 32 := 1#32
  let v209 : BitVec 32 := Scalar.select v208 c1_i32_142 c16_i32_140
  let v210 : BitVec 32 := Scalar.remsi v207 v209
  let c0_i32_144 : BitVec 32 := 0#32
  let v212 : BitVec 1 := Scalar.cmpi .slt v210 c0_i32_144
  let c0_i32_145 : BitVec 32 := 0#32
  let v213 : BitVec 1 := Scalar.cmpi .slt v209 c0_i32_145
  let v214 : BitVec 1 := Scalar.xori v212 v213
  let c0_i32_143 : BitVec 32 := 0#32
  let v211 : BitVec 1 := Scalar.cmpi .ne v210 c0_i32_143
  let v215 : BitVec 1 := Scalar.andi v214 v211
  let v216 : BitVec 32 := Scalar.addi v210 v209
  let v217 : BitVec 32 := Scalar.select v215 v216 v210
  let c1_i32_157 : BitVec 32 := 1#32
  let v241 : BitVec 32 := Scalar.muli v217 c1_i32_157
  let v242 : BitVec 32 := Scalar.addi c0_i32_158 v241
  v242.toNat
def k0_dev17 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_163 : BitVec 32 := 2#32
  let v251 : BitVec 32 := Scalar.addi v2 c2_i32_163
  let c16_i32_164 : BitVec 32 := 16#32
  let c0_i32_165 : BitVec 32 := 0#32
  let v252 : BitVec 1 := Scalar.cmpi .eq c16_i32_164 c0_i32_165
  let c1_i32_166 : BitVec 32 := 1#32
  let v253 : BitVec 32 := Scalar.select v252 c1_i32_166 c16_i32_164
  let v254 : BitVec 32 := Scalar.remsi v251 v253
  let c0_i32_168 : BitVec 32 := 0#32
  let v256 : BitVec 1 := Scalar.cmpi .slt v254 c0_i32_168
  let c0_i32_169 : BitVec 32 := 0#32
  let v257 : BitVec 1 := Scalar.cmpi .slt v253 c0_i32_169
  let v258 : BitVec 1 := Scalar.xori v256 v257
  let c0_i32_167 : BitVec 32 := 0#32
  let v255 : BitVec 1 := Scalar.cmpi .ne v254 c0_i32_167
  let v259 : BitVec 1 := Scalar.andi v258 v255
  let v260 : BitVec 32 := Scalar.addi v254 v253
  let v261 : BitVec 32 := Scalar.select v259 v260 v254
  let c1_i32_182 : BitVec 32 := 1#32
  let v285 : BitVec 32 := Scalar.muli v261 c1_i32_182
  let v286 : BitVec 32 := Scalar.addi c0_i32_183 v285
  v286.toNat
def k0_dev18 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_188 : BitVec 32 := 3#32
  let v295 : BitVec 32 := Scalar.addi v2 c3_i32_188
  let c16_i32_189 : BitVec 32 := 16#32
  let c0_i32_190 : BitVec 32 := 0#32
  let v296 : BitVec 1 := Scalar.cmpi .eq c16_i32_189 c0_i32_190
  let c1_i32_191 : BitVec 32 := 1#32
  let v297 : BitVec 32 := Scalar.select v296 c1_i32_191 c16_i32_189
  let v298 : BitVec 32 := Scalar.remsi v295 v297
  let c0_i32_193 : BitVec 32 := 0#32
  let v300 : BitVec 1 := Scalar.cmpi .slt v298 c0_i32_193
  let c0_i32_194 : BitVec 32 := 0#32
  let v301 : BitVec 1 := Scalar.cmpi .slt v297 c0_i32_194
  let v302 : BitVec 1 := Scalar.xori v300 v301
  let c0_i32_192 : BitVec 32 := 0#32
  let v299 : BitVec 1 := Scalar.cmpi .ne v298 c0_i32_192
  let v303 : BitVec 1 := Scalar.andi v302 v299
  let v304 : BitVec 32 := Scalar.addi v298 v297
  let v305 : BitVec 32 := Scalar.select v303 v304 v298
  let c1_i32_207 : BitVec 32 := 1#32
  let v329 : BitVec 32 := Scalar.muli v305 c1_i32_207
  let v330 : BitVec 32 := Scalar.addi c0_i32_208 v329
  v330.toNat
def k0_dev19 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_213 : BitVec 32 := 4#32
  let v339 : BitVec 32 := Scalar.addi v2 c4_i32_213
  let c16_i32_214 : BitVec 32 := 16#32
  let c0_i32_215 : BitVec 32 := 0#32
  let v340 : BitVec 1 := Scalar.cmpi .eq c16_i32_214 c0_i32_215
  let c1_i32_216 : BitVec 32 := 1#32
  let v341 : BitVec 32 := Scalar.select v340 c1_i32_216 c16_i32_214
  let v342 : BitVec 32 := Scalar.remsi v339 v341
  let c0_i32_218 : BitVec 32 := 0#32
  let v344 : BitVec 1 := Scalar.cmpi .slt v342 c0_i32_218
  let c0_i32_219 : BitVec 32 := 0#32
  let v345 : BitVec 1 := Scalar.cmpi .slt v341 c0_i32_219
  let v346 : BitVec 1 := Scalar.xori v344 v345
  let c0_i32_217 : BitVec 32 := 0#32
  let v343 : BitVec 1 := Scalar.cmpi .ne v342 c0_i32_217
  let v347 : BitVec 1 := Scalar.andi v346 v343
  let v348 : BitVec 32 := Scalar.addi v342 v341
  let v349 : BitVec 32 := Scalar.select v347 v348 v342
  let c1_i32_232 : BitVec 32 := 1#32
  let v373 : BitVec 32 := Scalar.muli v349 c1_i32_232
  let v374 : BitVec 32 := Scalar.addi c0_i32_233 v373
  v374.toNat
def k0_dev20 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_238 : BitVec 32 := 5#32
  let v383 : BitVec 32 := Scalar.addi v2 c5_i32_238
  let c16_i32_239 : BitVec 32 := 16#32
  let c0_i32_240 : BitVec 32 := 0#32
  let v384 : BitVec 1 := Scalar.cmpi .eq c16_i32_239 c0_i32_240
  let c1_i32_241 : BitVec 32 := 1#32
  let v385 : BitVec 32 := Scalar.select v384 c1_i32_241 c16_i32_239
  let v386 : BitVec 32 := Scalar.remsi v383 v385
  let c0_i32_243 : BitVec 32 := 0#32
  let v388 : BitVec 1 := Scalar.cmpi .slt v386 c0_i32_243
  let c0_i32_244 : BitVec 32 := 0#32
  let v389 : BitVec 1 := Scalar.cmpi .slt v385 c0_i32_244
  let v390 : BitVec 1 := Scalar.xori v388 v389
  let c0_i32_242 : BitVec 32 := 0#32
  let v387 : BitVec 1 := Scalar.cmpi .ne v386 c0_i32_242
  let v391 : BitVec 1 := Scalar.andi v390 v387
  let v392 : BitVec 32 := Scalar.addi v386 v385
  let v393 : BitVec 32 := Scalar.select v391 v392 v386
  let c1_i32_257 : BitVec 32 := 1#32
  let v417 : BitVec 32 := Scalar.muli v393 c1_i32_257
  let v418 : BitVec 32 := Scalar.addi c0_i32_258 v417
  v418.toNat
def k0_dev21 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_263 : BitVec 32 := 6#32
  let v427 : BitVec 32 := Scalar.addi v2 c6_i32_263
  let c16_i32_264 : BitVec 32 := 16#32
  let c0_i32_265 : BitVec 32 := 0#32
  let v428 : BitVec 1 := Scalar.cmpi .eq c16_i32_264 c0_i32_265
  let c1_i32_266 : BitVec 32 := 1#32
  let v429 : BitVec 32 := Scalar.select v428 c1_i32_266 c16_i32_264
  let v430 : BitVec 32 := Scalar.remsi v427 v429
  let c0_i32_268 : BitVec 32 := 0#32
  let v432 : BitVec 1 := Scalar.cmpi .slt v430 c0_i32_268
  let c0_i32_269 : BitVec 32 := 0#32
  let v433 : BitVec 1 := Scalar.cmpi .slt v429 c0_i32_269
  let v434 : BitVec 1 := Scalar.xori v432 v433
  let c0_i32_267 : BitVec 32 := 0#32
  let v431 : BitVec 1 := Scalar.cmpi .ne v430 c0_i32_267
  let v435 : BitVec 1 := Scalar.andi v434 v431
  let v436 : BitVec 32 := Scalar.addi v430 v429
  let v437 : BitVec 32 := Scalar.select v435 v436 v430
  let c1_i32_282 : BitVec 32 := 1#32
  let v461 : BitVec 32 := Scalar.muli v437 c1_i32_282
  let v462 : BitVec 32 := Scalar.addi c0_i32_283 v461
  v462.toNat
def k0_dev22 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_288 : BitVec 32 := 7#32
  let v471 : BitVec 32 := Scalar.addi v2 c7_i32_288
  let c16_i32_289 : BitVec 32 := 16#32
  let c0_i32_290 : BitVec 32 := 0#32
  let v472 : BitVec 1 := Scalar.cmpi .eq c16_i32_289 c0_i32_290
  let c1_i32_291 : BitVec 32 := 1#32
  let v473 : BitVec 32 := Scalar.select v472 c1_i32_291 c16_i32_289
  let v474 : BitVec 32 := Scalar.remsi v471 v473
  let c0_i32_293 : BitVec 32 := 0#32
  let v476 : BitVec 1 := Scalar.cmpi .slt v474 c0_i32_293
  let c0_i32_294 : BitVec 32 := 0#32
  let v477 : BitVec 1 := Scalar.cmpi .slt v473 c0_i32_294
  let v478 : BitVec 1 := Scalar.xori v476 v477
  let c0_i32_292 : BitVec 32 := 0#32
  let v475 : BitVec 1 := Scalar.cmpi .ne v474 c0_i32_292
  let v479 : BitVec 1 := Scalar.andi v478 v475
  let v480 : BitVec 32 := Scalar.addi v474 v473
  let v481 : BitVec 32 := Scalar.select v479 v480 v474
  let c1_i32_307 : BitVec 32 := 1#32
  let v505 : BitVec 32 := Scalar.muli v481 c1_i32_307
  let v506 : BitVec 32 := Scalar.addi c0_i32_308 v505
  v506.toNat
def k0_dev23 (d0 : Dev nD) : Nat :=
  let c0_i32_333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_313 : BitVec 32 := 8#32
  let v515 : BitVec 32 := Scalar.addi v2 c8_i32_313
  let c16_i32_314 : BitVec 32 := 16#32
  let c0_i32_315 : BitVec 32 := 0#32
  let v516 : BitVec 1 := Scalar.cmpi .eq c16_i32_314 c0_i32_315
  let c1_i32_316 : BitVec 32 := 1#32
  let v517 : BitVec 32 := Scalar.select v516 c1_i32_316 c16_i32_314
  let v518 : BitVec 32 := Scalar.remsi v515 v517
  let c0_i32_318 : BitVec 32 := 0#32
  let v520 : BitVec 1 := Scalar.cmpi .slt v518 c0_i32_318
  let c0_i32_319 : BitVec 32 := 0#32
  let v521 : BitVec 1 := Scalar.cmpi .slt v517 c0_i32_319
  let v522 : BitVec 1 := Scalar.xori v520 v521
  let c0_i32_317 : BitVec 32 := 0#32
  let v519 : BitVec 1 := Scalar.cmpi .ne v518 c0_i32_317
  let v523 : BitVec 1 := Scalar.andi v522 v519
  let v524 : BitVec 32 := Scalar.addi v518 v517
  let v525 : BitVec 32 := Scalar.select v523 v524 v518
  let c1_i32_332 : BitVec 32 := 1#32
  let v549 : BitVec 32 := Scalar.muli v525 c1_i32_332
  let v550 : BitVec 32 := Scalar.addi c0_i32_333 v549
  v550.toNat
def k0_dev24 (d0 : Dev nD) : Nat :=
  let c0_i32_358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_338 : BitVec 32 := 9#32
  let v559 : BitVec 32 := Scalar.addi v2 c9_i32_338
  let c16_i32_339 : BitVec 32 := 16#32
  let c0_i32_340 : BitVec 32 := 0#32
  let v560 : BitVec 1 := Scalar.cmpi .eq c16_i32_339 c0_i32_340
  let c1_i32_341 : BitVec 32 := 1#32
  let v561 : BitVec 32 := Scalar.select v560 c1_i32_341 c16_i32_339
  let v562 : BitVec 32 := Scalar.remsi v559 v561
  let c0_i32_343 : BitVec 32 := 0#32
  let v564 : BitVec 1 := Scalar.cmpi .slt v562 c0_i32_343
  let c0_i32_344 : BitVec 32 := 0#32
  let v565 : BitVec 1 := Scalar.cmpi .slt v561 c0_i32_344
  let v566 : BitVec 1 := Scalar.xori v564 v565
  let c0_i32_342 : BitVec 32 := 0#32
  let v563 : BitVec 1 := Scalar.cmpi .ne v562 c0_i32_342
  let v567 : BitVec 1 := Scalar.andi v566 v563
  let v568 : BitVec 32 := Scalar.addi v562 v561
  let v569 : BitVec 32 := Scalar.select v567 v568 v562
  let c1_i32_357 : BitVec 32 := 1#32
  let v593 : BitVec 32 := Scalar.muli v569 c1_i32_357
  let v594 : BitVec 32 := Scalar.addi c0_i32_358 v593
  v594.toNat
def k0_dev25 (d0 : Dev nD) : Nat :=
  let c0_i32_383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_363 : BitVec 32 := 10#32
  let v603 : BitVec 32 := Scalar.addi v2 c10_i32_363
  let c16_i32_364 : BitVec 32 := 16#32
  let c0_i32_365 : BitVec 32 := 0#32
  let v604 : BitVec 1 := Scalar.cmpi .eq c16_i32_364 c0_i32_365
  let c1_i32_366 : BitVec 32 := 1#32
  let v605 : BitVec 32 := Scalar.select v604 c1_i32_366 c16_i32_364
  let v606 : BitVec 32 := Scalar.remsi v603 v605
  let c0_i32_368 : BitVec 32 := 0#32
  let v608 : BitVec 1 := Scalar.cmpi .slt v606 c0_i32_368
  let c0_i32_369 : BitVec 32 := 0#32
  let v609 : BitVec 1 := Scalar.cmpi .slt v605 c0_i32_369
  let v610 : BitVec 1 := Scalar.xori v608 v609
  let c0_i32_367 : BitVec 32 := 0#32
  let v607 : BitVec 1 := Scalar.cmpi .ne v606 c0_i32_367
  let v611 : BitVec 1 := Scalar.andi v610 v607
  let v612 : BitVec 32 := Scalar.addi v606 v605
  let v613 : BitVec 32 := Scalar.select v611 v612 v606
  let c1_i32_382 : BitVec 32 := 1#32
  let v637 : BitVec 32 := Scalar.muli v613 c1_i32_382
  let v638 : BitVec 32 := Scalar.addi c0_i32_383 v637
  v638.toNat
def k0_dev26 (d0 : Dev nD) : Nat :=
  let c0_i32_408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_388 : BitVec 32 := 11#32
  let v647 : BitVec 32 := Scalar.addi v2 c11_i32_388
  let c16_i32_389 : BitVec 32 := 16#32
  let c0_i32_390 : BitVec 32 := 0#32
  let v648 : BitVec 1 := Scalar.cmpi .eq c16_i32_389 c0_i32_390
  let c1_i32_391 : BitVec 32 := 1#32
  let v649 : BitVec 32 := Scalar.select v648 c1_i32_391 c16_i32_389
  let v650 : BitVec 32 := Scalar.remsi v647 v649
  let c0_i32_393 : BitVec 32 := 0#32
  let v652 : BitVec 1 := Scalar.cmpi .slt v650 c0_i32_393
  let c0_i32_394 : BitVec 32 := 0#32
  let v653 : BitVec 1 := Scalar.cmpi .slt v649 c0_i32_394
  let v654 : BitVec 1 := Scalar.xori v652 v653
  let c0_i32_392 : BitVec 32 := 0#32
  let v651 : BitVec 1 := Scalar.cmpi .ne v650 c0_i32_392
  let v655 : BitVec 1 := Scalar.andi v654 v651
  let v656 : BitVec 32 := Scalar.addi v650 v649
  let v657 : BitVec 32 := Scalar.select v655 v656 v650
  let c1_i32_407 : BitVec 32 := 1#32
  let v681 : BitVec 32 := Scalar.muli v657 c1_i32_407
  let v682 : BitVec 32 := Scalar.addi c0_i32_408 v681
  v682.toNat
def k0_dev27 (d0 : Dev nD) : Nat :=
  let c0_i32_433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_413 : BitVec 32 := 12#32
  let v691 : BitVec 32 := Scalar.addi v2 c12_i32_413
  let c16_i32_414 : BitVec 32 := 16#32
  let c0_i32_415 : BitVec 32 := 0#32
  let v692 : BitVec 1 := Scalar.cmpi .eq c16_i32_414 c0_i32_415
  let c1_i32_416 : BitVec 32 := 1#32
  let v693 : BitVec 32 := Scalar.select v692 c1_i32_416 c16_i32_414
  let v694 : BitVec 32 := Scalar.remsi v691 v693
  let c0_i32_418 : BitVec 32 := 0#32
  let v696 : BitVec 1 := Scalar.cmpi .slt v694 c0_i32_418
  let c0_i32_419 : BitVec 32 := 0#32
  let v697 : BitVec 1 := Scalar.cmpi .slt v693 c0_i32_419
  let v698 : BitVec 1 := Scalar.xori v696 v697
  let c0_i32_417 : BitVec 32 := 0#32
  let v695 : BitVec 1 := Scalar.cmpi .ne v694 c0_i32_417
  let v699 : BitVec 1 := Scalar.andi v698 v695
  let v700 : BitVec 32 := Scalar.addi v694 v693
  let v701 : BitVec 32 := Scalar.select v699 v700 v694
  let c1_i32_432 : BitVec 32 := 1#32
  let v725 : BitVec 32 := Scalar.muli v701 c1_i32_432
  let v726 : BitVec 32 := Scalar.addi c0_i32_433 v725
  v726.toNat
def k0_dev28 (d0 : Dev nD) : Nat :=
  let c0_i32_458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_438 : BitVec 32 := 13#32
  let v735 : BitVec 32 := Scalar.addi v2 c13_i32_438
  let c16_i32_439 : BitVec 32 := 16#32
  let c0_i32_440 : BitVec 32 := 0#32
  let v736 : BitVec 1 := Scalar.cmpi .eq c16_i32_439 c0_i32_440
  let c1_i32_441 : BitVec 32 := 1#32
  let v737 : BitVec 32 := Scalar.select v736 c1_i32_441 c16_i32_439
  let v738 : BitVec 32 := Scalar.remsi v735 v737
  let c0_i32_443 : BitVec 32 := 0#32
  let v740 : BitVec 1 := Scalar.cmpi .slt v738 c0_i32_443
  let c0_i32_444 : BitVec 32 := 0#32
  let v741 : BitVec 1 := Scalar.cmpi .slt v737 c0_i32_444
  let v742 : BitVec 1 := Scalar.xori v740 v741
  let c0_i32_442 : BitVec 32 := 0#32
  let v739 : BitVec 1 := Scalar.cmpi .ne v738 c0_i32_442
  let v743 : BitVec 1 := Scalar.andi v742 v739
  let v744 : BitVec 32 := Scalar.addi v738 v737
  let v745 : BitVec 32 := Scalar.select v743 v744 v738
  let c1_i32_457 : BitVec 32 := 1#32
  let v769 : BitVec 32 := Scalar.muli v745 c1_i32_457
  let v770 : BitVec 32 := Scalar.addi c0_i32_458 v769
  v770.toNat
def k0_dev29 (d0 : Dev nD) : Nat :=
  let c0_i32_483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_463 : BitVec 32 := 14#32
  let v779 : BitVec 32 := Scalar.addi v2 c14_i32_463
  let c16_i32_464 : BitVec 32 := 16#32
  let c0_i32_465 : BitVec 32 := 0#32
  let v780 : BitVec 1 := Scalar.cmpi .eq c16_i32_464 c0_i32_465
  let c1_i32_466 : BitVec 32 := 1#32
  let v781 : BitVec 32 := Scalar.select v780 c1_i32_466 c16_i32_464
  let v782 : BitVec 32 := Scalar.remsi v779 v781
  let c0_i32_468 : BitVec 32 := 0#32
  let v784 : BitVec 1 := Scalar.cmpi .slt v782 c0_i32_468
  let c0_i32_469 : BitVec 32 := 0#32
  let v785 : BitVec 1 := Scalar.cmpi .slt v781 c0_i32_469
  let v786 : BitVec 1 := Scalar.xori v784 v785
  let c0_i32_467 : BitVec 32 := 0#32
  let v783 : BitVec 1 := Scalar.cmpi .ne v782 c0_i32_467
  let v787 : BitVec 1 := Scalar.andi v786 v783
  let v788 : BitVec 32 := Scalar.addi v782 v781
  let v789 : BitVec 32 := Scalar.select v787 v788 v782
  let c1_i32_482 : BitVec 32 := 1#32
  let v813 : BitVec 32 := Scalar.muli v789 c1_i32_482
  let v814 : BitVec 32 := Scalar.addi c0_i32_483 v813
  v814.toNat
def k0_dev30 (d0 : Dev nD) : Nat :=
  let c0_i32_508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_488 : BitVec 32 := 15#32
  let v823 : BitVec 32 := Scalar.addi v2 c15_i32_488
  let c16_i32_489 : BitVec 32 := 16#32
  let c0_i32_490 : BitVec 32 := 0#32
  let v824 : BitVec 1 := Scalar.cmpi .eq c16_i32_489 c0_i32_490
  let c1_i32_491 : BitVec 32 := 1#32
  let v825 : BitVec 32 := Scalar.select v824 c1_i32_491 c16_i32_489
  let v826 : BitVec 32 := Scalar.remsi v823 v825
  let c0_i32_493 : BitVec 32 := 0#32
  let v828 : BitVec 1 := Scalar.cmpi .slt v826 c0_i32_493
  let c0_i32_494 : BitVec 32 := 0#32
  let v829 : BitVec 1 := Scalar.cmpi .slt v825 c0_i32_494
  let v830 : BitVec 1 := Scalar.xori v828 v829
  let c0_i32_492 : BitVec 32 := 0#32
  let v827 : BitVec 1 := Scalar.cmpi .ne v826 c0_i32_492
  let v831 : BitVec 1 := Scalar.andi v830 v827
  let v832 : BitVec 32 := Scalar.addi v826 v825
  let v833 : BitVec 32 := Scalar.select v831 v832 v826
  let c1_i32_507 : BitVec 32 := 1#32
  let v857 : BitVec 32 := Scalar.muli v833 c1_i32_507
  let v858 : BitVec 32 := Scalar.addi c0_i32_508 v857
  v858.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v867 : Index := Scalar.indexCast v2
  let c0_513 : Index := 0#32
  ![v867.toNat, 0]
def k0_dev31 (d0 : Dev nD) : Nat :=
  let c0_i32_733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_722 : BitVec 32 := 1#32
  let v1060 : BitVec 32 := Scalar.addi v2 c1_i32_722
  let c16_i32_723 : BitVec 32 := 16#32
  let c0_i32_724 : BitVec 32 := 0#32
  let v1061 : BitVec 1 := Scalar.cmpi .eq c16_i32_723 c0_i32_724
  let c1_i32_725 : BitVec 32 := 1#32
  let v1062 : BitVec 32 := Scalar.select v1061 c1_i32_725 c16_i32_723
  let v1063 : BitVec 32 := Scalar.remsi v1060 v1062
  let c0_i32_727 : BitVec 32 := 0#32
  let v1065 : BitVec 1 := Scalar.cmpi .slt v1063 c0_i32_727
  let c0_i32_728 : BitVec 32 := 0#32
  let v1066 : BitVec 1 := Scalar.cmpi .slt v1062 c0_i32_728
  let v1067 : BitVec 1 := Scalar.xori v1065 v1066
  let c0_i32_726 : BitVec 32 := 0#32
  let v1064 : BitVec 1 := Scalar.cmpi .ne v1063 c0_i32_726
  let v1068 : BitVec 1 := Scalar.andi v1067 v1064
  let v1069 : BitVec 32 := Scalar.addi v1063 v1062
  let v1070 : BitVec 32 := Scalar.select v1068 v1069 v1063
  let c1_i32_732 : BitVec 32 := 1#32
  let v1071 : BitVec 32 := Scalar.muli v1070 c1_i32_732
  let v1072 : BitVec 32 := Scalar.addi c0_i32_733 v1071
  v1072.toNat
def k0_dev32 (d0 : Dev nD) : Nat :=
  let c0_i32_747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_736 : BitVec 32 := 2#32
  let v1079 : BitVec 32 := Scalar.addi v2 c2_i32_736
  let c16_i32_737 : BitVec 32 := 16#32
  let c0_i32_738 : BitVec 32 := 0#32
  let v1080 : BitVec 1 := Scalar.cmpi .eq c16_i32_737 c0_i32_738
  let c1_i32_739 : BitVec 32 := 1#32
  let v1081 : BitVec 32 := Scalar.select v1080 c1_i32_739 c16_i32_737
  let v1082 : BitVec 32 := Scalar.remsi v1079 v1081
  let c0_i32_741 : BitVec 32 := 0#32
  let v1084 : BitVec 1 := Scalar.cmpi .slt v1082 c0_i32_741
  let c0_i32_742 : BitVec 32 := 0#32
  let v1085 : BitVec 1 := Scalar.cmpi .slt v1081 c0_i32_742
  let v1086 : BitVec 1 := Scalar.xori v1084 v1085
  let c0_i32_740 : BitVec 32 := 0#32
  let v1083 : BitVec 1 := Scalar.cmpi .ne v1082 c0_i32_740
  let v1087 : BitVec 1 := Scalar.andi v1086 v1083
  let v1088 : BitVec 32 := Scalar.addi v1082 v1081
  let v1089 : BitVec 32 := Scalar.select v1087 v1088 v1082
  let c1_i32_746 : BitVec 32 := 1#32
  let v1090 : BitVec 32 := Scalar.muli v1089 c1_i32_746
  let v1091 : BitVec 32 := Scalar.addi c0_i32_747 v1090
  v1091.toNat
def k0_dev33 (d0 : Dev nD) : Nat :=
  let c0_i32_761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_750 : BitVec 32 := 3#32
  let v1098 : BitVec 32 := Scalar.addi v2 c3_i32_750
  let c16_i32_751 : BitVec 32 := 16#32
  let c0_i32_752 : BitVec 32 := 0#32
  let v1099 : BitVec 1 := Scalar.cmpi .eq c16_i32_751 c0_i32_752
  let c1_i32_753 : BitVec 32 := 1#32
  let v1100 : BitVec 32 := Scalar.select v1099 c1_i32_753 c16_i32_751
  let v1101 : BitVec 32 := Scalar.remsi v1098 v1100
  let c0_i32_755 : BitVec 32 := 0#32
  let v1103 : BitVec 1 := Scalar.cmpi .slt v1101 c0_i32_755
  let c0_i32_756 : BitVec 32 := 0#32
  let v1104 : BitVec 1 := Scalar.cmpi .slt v1100 c0_i32_756
  let v1105 : BitVec 1 := Scalar.xori v1103 v1104
  let c0_i32_754 : BitVec 32 := 0#32
  let v1102 : BitVec 1 := Scalar.cmpi .ne v1101 c0_i32_754
  let v1106 : BitVec 1 := Scalar.andi v1105 v1102
  let v1107 : BitVec 32 := Scalar.addi v1101 v1100
  let v1108 : BitVec 32 := Scalar.select v1106 v1107 v1101
  let c1_i32_760 : BitVec 32 := 1#32
  let v1109 : BitVec 32 := Scalar.muli v1108 c1_i32_760
  let v1110 : BitVec 32 := Scalar.addi c0_i32_761 v1109
  v1110.toNat
def k0_dev34 (d0 : Dev nD) : Nat :=
  let c0_i32_775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_764 : BitVec 32 := 4#32
  let v1117 : BitVec 32 := Scalar.addi v2 c4_i32_764
  let c16_i32_765 : BitVec 32 := 16#32
  let c0_i32_766 : BitVec 32 := 0#32
  let v1118 : BitVec 1 := Scalar.cmpi .eq c16_i32_765 c0_i32_766
  let c1_i32_767 : BitVec 32 := 1#32
  let v1119 : BitVec 32 := Scalar.select v1118 c1_i32_767 c16_i32_765
  let v1120 : BitVec 32 := Scalar.remsi v1117 v1119
  let c0_i32_769 : BitVec 32 := 0#32
  let v1122 : BitVec 1 := Scalar.cmpi .slt v1120 c0_i32_769
  let c0_i32_770 : BitVec 32 := 0#32
  let v1123 : BitVec 1 := Scalar.cmpi .slt v1119 c0_i32_770
  let v1124 : BitVec 1 := Scalar.xori v1122 v1123
  let c0_i32_768 : BitVec 32 := 0#32
  let v1121 : BitVec 1 := Scalar.cmpi .ne v1120 c0_i32_768
  let v1125 : BitVec 1 := Scalar.andi v1124 v1121
  let v1126 : BitVec 32 := Scalar.addi v1120 v1119
  let v1127 : BitVec 32 := Scalar.select v1125 v1126 v1120
  let c1_i32_774 : BitVec 32 := 1#32
  let v1128 : BitVec 32 := Scalar.muli v1127 c1_i32_774
  let v1129 : BitVec 32 := Scalar.addi c0_i32_775 v1128
  v1129.toNat
def k0_dev35 (d0 : Dev nD) : Nat :=
  let c0_i32_789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_778 : BitVec 32 := 5#32
  let v1136 : BitVec 32 := Scalar.addi v2 c5_i32_778
  let c16_i32_779 : BitVec 32 := 16#32
  let c0_i32_780 : BitVec 32 := 0#32
  let v1137 : BitVec 1 := Scalar.cmpi .eq c16_i32_779 c0_i32_780
  let c1_i32_781 : BitVec 32 := 1#32
  let v1138 : BitVec 32 := Scalar.select v1137 c1_i32_781 c16_i32_779
  let v1139 : BitVec 32 := Scalar.remsi v1136 v1138
  let c0_i32_783 : BitVec 32 := 0#32
  let v1141 : BitVec 1 := Scalar.cmpi .slt v1139 c0_i32_783
  let c0_i32_784 : BitVec 32 := 0#32
  let v1142 : BitVec 1 := Scalar.cmpi .slt v1138 c0_i32_784
  let v1143 : BitVec 1 := Scalar.xori v1141 v1142
  let c0_i32_782 : BitVec 32 := 0#32
  let v1140 : BitVec 1 := Scalar.cmpi .ne v1139 c0_i32_782
  let v1144 : BitVec 1 := Scalar.andi v1143 v1140
  let v1145 : BitVec 32 := Scalar.addi v1139 v1138
  let v1146 : BitVec 32 := Scalar.select v1144 v1145 v1139
  let c1_i32_788 : BitVec 32 := 1#32
  let v1147 : BitVec 32 := Scalar.muli v1146 c1_i32_788
  let v1148 : BitVec 32 := Scalar.addi c0_i32_789 v1147
  v1148.toNat
def k0_dev36 (d0 : Dev nD) : Nat :=
  let c0_i32_803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_792 : BitVec 32 := 6#32
  let v1155 : BitVec 32 := Scalar.addi v2 c6_i32_792
  let c16_i32_793 : BitVec 32 := 16#32
  let c0_i32_794 : BitVec 32 := 0#32
  let v1156 : BitVec 1 := Scalar.cmpi .eq c16_i32_793 c0_i32_794
  let c1_i32_795 : BitVec 32 := 1#32
  let v1157 : BitVec 32 := Scalar.select v1156 c1_i32_795 c16_i32_793
  let v1158 : BitVec 32 := Scalar.remsi v1155 v1157
  let c0_i32_797 : BitVec 32 := 0#32
  let v1160 : BitVec 1 := Scalar.cmpi .slt v1158 c0_i32_797
  let c0_i32_798 : BitVec 32 := 0#32
  let v1161 : BitVec 1 := Scalar.cmpi .slt v1157 c0_i32_798
  let v1162 : BitVec 1 := Scalar.xori v1160 v1161
  let c0_i32_796 : BitVec 32 := 0#32
  let v1159 : BitVec 1 := Scalar.cmpi .ne v1158 c0_i32_796
  let v1163 : BitVec 1 := Scalar.andi v1162 v1159
  let v1164 : BitVec 32 := Scalar.addi v1158 v1157
  let v1165 : BitVec 32 := Scalar.select v1163 v1164 v1158
  let c1_i32_802 : BitVec 32 := 1#32
  let v1166 : BitVec 32 := Scalar.muli v1165 c1_i32_802
  let v1167 : BitVec 32 := Scalar.addi c0_i32_803 v1166
  v1167.toNat
def k0_dev37 (d0 : Dev nD) : Nat :=
  let c0_i32_817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_806 : BitVec 32 := 7#32
  let v1174 : BitVec 32 := Scalar.addi v2 c7_i32_806
  let c16_i32_807 : BitVec 32 := 16#32
  let c0_i32_808 : BitVec 32 := 0#32
  let v1175 : BitVec 1 := Scalar.cmpi .eq c16_i32_807 c0_i32_808
  let c1_i32_809 : BitVec 32 := 1#32
  let v1176 : BitVec 32 := Scalar.select v1175 c1_i32_809 c16_i32_807
  let v1177 : BitVec 32 := Scalar.remsi v1174 v1176
  let c0_i32_811 : BitVec 32 := 0#32
  let v1179 : BitVec 1 := Scalar.cmpi .slt v1177 c0_i32_811
  let c0_i32_812 : BitVec 32 := 0#32
  let v1180 : BitVec 1 := Scalar.cmpi .slt v1176 c0_i32_812
  let v1181 : BitVec 1 := Scalar.xori v1179 v1180
  let c0_i32_810 : BitVec 32 := 0#32
  let v1178 : BitVec 1 := Scalar.cmpi .ne v1177 c0_i32_810
  let v1182 : BitVec 1 := Scalar.andi v1181 v1178
  let v1183 : BitVec 32 := Scalar.addi v1177 v1176
  let v1184 : BitVec 32 := Scalar.select v1182 v1183 v1177
  let c1_i32_816 : BitVec 32 := 1#32
  let v1185 : BitVec 32 := Scalar.muli v1184 c1_i32_816
  let v1186 : BitVec 32 := Scalar.addi c0_i32_817 v1185
  v1186.toNat
def k0_dev38 (d0 : Dev nD) : Nat :=
  let c0_i32_831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_820 : BitVec 32 := 8#32
  let v1193 : BitVec 32 := Scalar.addi v2 c8_i32_820
  let c16_i32_821 : BitVec 32 := 16#32
  let c0_i32_822 : BitVec 32 := 0#32
  let v1194 : BitVec 1 := Scalar.cmpi .eq c16_i32_821 c0_i32_822
  let c1_i32_823 : BitVec 32 := 1#32
  let v1195 : BitVec 32 := Scalar.select v1194 c1_i32_823 c16_i32_821
  let v1196 : BitVec 32 := Scalar.remsi v1193 v1195
  let c0_i32_825 : BitVec 32 := 0#32
  let v1198 : BitVec 1 := Scalar.cmpi .slt v1196 c0_i32_825
  let c0_i32_826 : BitVec 32 := 0#32
  let v1199 : BitVec 1 := Scalar.cmpi .slt v1195 c0_i32_826
  let v1200 : BitVec 1 := Scalar.xori v1198 v1199
  let c0_i32_824 : BitVec 32 := 0#32
  let v1197 : BitVec 1 := Scalar.cmpi .ne v1196 c0_i32_824
  let v1201 : BitVec 1 := Scalar.andi v1200 v1197
  let v1202 : BitVec 32 := Scalar.addi v1196 v1195
  let v1203 : BitVec 32 := Scalar.select v1201 v1202 v1196
  let c1_i32_830 : BitVec 32 := 1#32
  let v1204 : BitVec 32 := Scalar.muli v1203 c1_i32_830
  let v1205 : BitVec 32 := Scalar.addi c0_i32_831 v1204
  v1205.toNat
def k0_dev39 (d0 : Dev nD) : Nat :=
  let c0_i32_845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_834 : BitVec 32 := 9#32
  let v1212 : BitVec 32 := Scalar.addi v2 c9_i32_834
  let c16_i32_835 : BitVec 32 := 16#32
  let c0_i32_836 : BitVec 32 := 0#32
  let v1213 : BitVec 1 := Scalar.cmpi .eq c16_i32_835 c0_i32_836
  let c1_i32_837 : BitVec 32 := 1#32
  let v1214 : BitVec 32 := Scalar.select v1213 c1_i32_837 c16_i32_835
  let v1215 : BitVec 32 := Scalar.remsi v1212 v1214
  let c0_i32_839 : BitVec 32 := 0#32
  let v1217 : BitVec 1 := Scalar.cmpi .slt v1215 c0_i32_839
  let c0_i32_840 : BitVec 32 := 0#32
  let v1218 : BitVec 1 := Scalar.cmpi .slt v1214 c0_i32_840
  let v1219 : BitVec 1 := Scalar.xori v1217 v1218
  let c0_i32_838 : BitVec 32 := 0#32
  let v1216 : BitVec 1 := Scalar.cmpi .ne v1215 c0_i32_838
  let v1220 : BitVec 1 := Scalar.andi v1219 v1216
  let v1221 : BitVec 32 := Scalar.addi v1215 v1214
  let v1222 : BitVec 32 := Scalar.select v1220 v1221 v1215
  let c1_i32_844 : BitVec 32 := 1#32
  let v1223 : BitVec 32 := Scalar.muli v1222 c1_i32_844
  let v1224 : BitVec 32 := Scalar.addi c0_i32_845 v1223
  v1224.toNat
def k0_dev40 (d0 : Dev nD) : Nat :=
  let c0_i32_859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_848 : BitVec 32 := 10#32
  let v1231 : BitVec 32 := Scalar.addi v2 c10_i32_848
  let c16_i32_849 : BitVec 32 := 16#32
  let c0_i32_850 : BitVec 32 := 0#32
  let v1232 : BitVec 1 := Scalar.cmpi .eq c16_i32_849 c0_i32_850
  let c1_i32_851 : BitVec 32 := 1#32
  let v1233 : BitVec 32 := Scalar.select v1232 c1_i32_851 c16_i32_849
  let v1234 : BitVec 32 := Scalar.remsi v1231 v1233
  let c0_i32_853 : BitVec 32 := 0#32
  let v1236 : BitVec 1 := Scalar.cmpi .slt v1234 c0_i32_853
  let c0_i32_854 : BitVec 32 := 0#32
  let v1237 : BitVec 1 := Scalar.cmpi .slt v1233 c0_i32_854
  let v1238 : BitVec 1 := Scalar.xori v1236 v1237
  let c0_i32_852 : BitVec 32 := 0#32
  let v1235 : BitVec 1 := Scalar.cmpi .ne v1234 c0_i32_852
  let v1239 : BitVec 1 := Scalar.andi v1238 v1235
  let v1240 : BitVec 32 := Scalar.addi v1234 v1233
  let v1241 : BitVec 32 := Scalar.select v1239 v1240 v1234
  let c1_i32_858 : BitVec 32 := 1#32
  let v1242 : BitVec 32 := Scalar.muli v1241 c1_i32_858
  let v1243 : BitVec 32 := Scalar.addi c0_i32_859 v1242
  v1243.toNat
def k0_dev41 (d0 : Dev nD) : Nat :=
  let c0_i32_873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_862 : BitVec 32 := 11#32
  let v1250 : BitVec 32 := Scalar.addi v2 c11_i32_862
  let c16_i32_863 : BitVec 32 := 16#32
  let c0_i32_864 : BitVec 32 := 0#32
  let v1251 : BitVec 1 := Scalar.cmpi .eq c16_i32_863 c0_i32_864
  let c1_i32_865 : BitVec 32 := 1#32
  let v1252 : BitVec 32 := Scalar.select v1251 c1_i32_865 c16_i32_863
  let v1253 : BitVec 32 := Scalar.remsi v1250 v1252
  let c0_i32_867 : BitVec 32 := 0#32
  let v1255 : BitVec 1 := Scalar.cmpi .slt v1253 c0_i32_867
  let c0_i32_868 : BitVec 32 := 0#32
  let v1256 : BitVec 1 := Scalar.cmpi .slt v1252 c0_i32_868
  let v1257 : BitVec 1 := Scalar.xori v1255 v1256
  let c0_i32_866 : BitVec 32 := 0#32
  let v1254 : BitVec 1 := Scalar.cmpi .ne v1253 c0_i32_866
  let v1258 : BitVec 1 := Scalar.andi v1257 v1254
  let v1259 : BitVec 32 := Scalar.addi v1253 v1252
  let v1260 : BitVec 32 := Scalar.select v1258 v1259 v1253
  let c1_i32_872 : BitVec 32 := 1#32
  let v1261 : BitVec 32 := Scalar.muli v1260 c1_i32_872
  let v1262 : BitVec 32 := Scalar.addi c0_i32_873 v1261
  v1262.toNat
def k0_dev42 (d0 : Dev nD) : Nat :=
  let c0_i32_887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_876 : BitVec 32 := 12#32
  let v1269 : BitVec 32 := Scalar.addi v2 c12_i32_876
  let c16_i32_877 : BitVec 32 := 16#32
  let c0_i32_878 : BitVec 32 := 0#32
  let v1270 : BitVec 1 := Scalar.cmpi .eq c16_i32_877 c0_i32_878
  let c1_i32_879 : BitVec 32 := 1#32
  let v1271 : BitVec 32 := Scalar.select v1270 c1_i32_879 c16_i32_877
  let v1272 : BitVec 32 := Scalar.remsi v1269 v1271
  let c0_i32_881 : BitVec 32 := 0#32
  let v1274 : BitVec 1 := Scalar.cmpi .slt v1272 c0_i32_881
  let c0_i32_882 : BitVec 32 := 0#32
  let v1275 : BitVec 1 := Scalar.cmpi .slt v1271 c0_i32_882
  let v1276 : BitVec 1 := Scalar.xori v1274 v1275
  let c0_i32_880 : BitVec 32 := 0#32
  let v1273 : BitVec 1 := Scalar.cmpi .ne v1272 c0_i32_880
  let v1277 : BitVec 1 := Scalar.andi v1276 v1273
  let v1278 : BitVec 32 := Scalar.addi v1272 v1271
  let v1279 : BitVec 32 := Scalar.select v1277 v1278 v1272
  let c1_i32_886 : BitVec 32 := 1#32
  let v1280 : BitVec 32 := Scalar.muli v1279 c1_i32_886
  let v1281 : BitVec 32 := Scalar.addi c0_i32_887 v1280
  v1281.toNat
def k0_dev43 (d0 : Dev nD) : Nat :=
  let c0_i32_901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_890 : BitVec 32 := 13#32
  let v1288 : BitVec 32 := Scalar.addi v2 c13_i32_890
  let c16_i32_891 : BitVec 32 := 16#32
  let c0_i32_892 : BitVec 32 := 0#32
  let v1289 : BitVec 1 := Scalar.cmpi .eq c16_i32_891 c0_i32_892
  let c1_i32_893 : BitVec 32 := 1#32
  let v1290 : BitVec 32 := Scalar.select v1289 c1_i32_893 c16_i32_891
  let v1291 : BitVec 32 := Scalar.remsi v1288 v1290
  let c0_i32_895 : BitVec 32 := 0#32
  let v1293 : BitVec 1 := Scalar.cmpi .slt v1291 c0_i32_895
  let c0_i32_896 : BitVec 32 := 0#32
  let v1294 : BitVec 1 := Scalar.cmpi .slt v1290 c0_i32_896
  let v1295 : BitVec 1 := Scalar.xori v1293 v1294
  let c0_i32_894 : BitVec 32 := 0#32
  let v1292 : BitVec 1 := Scalar.cmpi .ne v1291 c0_i32_894
  let v1296 : BitVec 1 := Scalar.andi v1295 v1292
  let v1297 : BitVec 32 := Scalar.addi v1291 v1290
  let v1298 : BitVec 32 := Scalar.select v1296 v1297 v1291
  let c1_i32_900 : BitVec 32 := 1#32
  let v1299 : BitVec 32 := Scalar.muli v1298 c1_i32_900
  let v1300 : BitVec 32 := Scalar.addi c0_i32_901 v1299
  v1300.toNat
def k0_dev44 (d0 : Dev nD) : Nat :=
  let c0_i32_915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_904 : BitVec 32 := 14#32
  let v1307 : BitVec 32 := Scalar.addi v2 c14_i32_904
  let c16_i32_905 : BitVec 32 := 16#32
  let c0_i32_906 : BitVec 32 := 0#32
  let v1308 : BitVec 1 := Scalar.cmpi .eq c16_i32_905 c0_i32_906
  let c1_i32_907 : BitVec 32 := 1#32
  let v1309 : BitVec 32 := Scalar.select v1308 c1_i32_907 c16_i32_905
  let v1310 : BitVec 32 := Scalar.remsi v1307 v1309
  let c0_i32_909 : BitVec 32 := 0#32
  let v1312 : BitVec 1 := Scalar.cmpi .slt v1310 c0_i32_909
  let c0_i32_910 : BitVec 32 := 0#32
  let v1313 : BitVec 1 := Scalar.cmpi .slt v1309 c0_i32_910
  let v1314 : BitVec 1 := Scalar.xori v1312 v1313
  let c0_i32_908 : BitVec 32 := 0#32
  let v1311 : BitVec 1 := Scalar.cmpi .ne v1310 c0_i32_908
  let v1315 : BitVec 1 := Scalar.andi v1314 v1311
  let v1316 : BitVec 32 := Scalar.addi v1310 v1309
  let v1317 : BitVec 32 := Scalar.select v1315 v1316 v1310
  let c1_i32_914 : BitVec 32 := 1#32
  let v1318 : BitVec 32 := Scalar.muli v1317 c1_i32_914
  let v1319 : BitVec 32 := Scalar.addi c0_i32_915 v1318
  v1319.toNat
def k0_dev45 (d0 : Dev nD) : Nat :=
  let c0_i32_929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_918 : BitVec 32 := 15#32
  let v1326 : BitVec 32 := Scalar.addi v2 c15_i32_918
  let c16_i32_919 : BitVec 32 := 16#32
  let c0_i32_920 : BitVec 32 := 0#32
  let v1327 : BitVec 1 := Scalar.cmpi .eq c16_i32_919 c0_i32_920
  let c1_i32_921 : BitVec 32 := 1#32
  let v1328 : BitVec 32 := Scalar.select v1327 c1_i32_921 c16_i32_919
  let v1329 : BitVec 32 := Scalar.remsi v1326 v1328
  let c0_i32_923 : BitVec 32 := 0#32
  let v1331 : BitVec 1 := Scalar.cmpi .slt v1329 c0_i32_923
  let c0_i32_924 : BitVec 32 := 0#32
  let v1332 : BitVec 1 := Scalar.cmpi .slt v1328 c0_i32_924
  let v1333 : BitVec 1 := Scalar.xori v1331 v1332
  let c0_i32_922 : BitVec 32 := 0#32
  let v1330 : BitVec 1 := Scalar.cmpi .ne v1329 c0_i32_922
  let v1334 : BitVec 1 := Scalar.andi v1333 v1330
  let v1335 : BitVec 32 := Scalar.addi v1329 v1328
  let v1336 : BitVec 32 := Scalar.select v1334 v1335 v1329
  let c1_i32_928 : BitVec 32 := 1#32
  let v1337 : BitVec 32 := Scalar.muli v1336 c1_i32_928
  let v1338 : BitVec 32 := Scalar.addi c0_i32_929 v1337
  v1338.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v1346 : BitVec 32 := Scalar.muli v2 c64_i32
  let v1347 : Index := Scalar.indexCast v1346
  let c0_934 : Index := 0#32
  ![v1347.toNat, 0]
def k0_off4 (d0 : Dev nD) (c1_i32_1077 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1445 : BitVec 32 := Scalar.subi v2 c1_i32_1077
  let c16_i32_1078 : BitVec 32 := 16#32
  let c0_i32_1079 : BitVec 32 := 0#32
  let v1446 : BitVec 1 := Scalar.cmpi .eq c16_i32_1078 c0_i32_1079
  let c1_i32_1080 : BitVec 32 := 1#32
  let v1447 : BitVec 32 := Scalar.select v1446 c1_i32_1080 c16_i32_1078
  let v1448 : BitVec 32 := Scalar.remsi v1445 v1447
  let c0_i32_1082 : BitVec 32 := 0#32
  let v1450 : BitVec 1 := Scalar.cmpi .slt v1448 c0_i32_1082
  let c0_i32_1083 : BitVec 32 := 0#32
  let v1451 : BitVec 1 := Scalar.cmpi .slt v1447 c0_i32_1083
  let v1452 : BitVec 1 := Scalar.xori v1450 v1451
  let c0_i32_1081 : BitVec 32 := 0#32
  let v1449 : BitVec 1 := Scalar.cmpi .ne v1448 c0_i32_1081
  let v1453 : BitVec 1 := Scalar.andi v1452 v1449
  let v1454 : BitVec 32 := Scalar.addi v1448 v1447
  let v1455 : BitVec 32 := Scalar.select v1453 v1454 v1448
  let c64_i32_1087 : BitVec 32 := 64#32
  let v1458 : BitVec 32 := Scalar.muli v1455 c64_i32_1087
  let v1459 : Index := Scalar.indexCast v1458
  let c0_1088 : Index := 0#32
  ![v1459.toNat, 0]
abbrev stage0_0 : Fin 1 → Memref sig .tc .vmem S16x64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S65536x512 : Shape := ⟨2, ![65536, 512]⟩
abbrev S16x64 : Shape := ⟨2, ![16, 64]⟩
abbrev S1024 : Shape := ⟨1, ![1024]⟩
abbrev S_ : Shape := ⟨0, ![]⟩
abbrev S1024x1 : Shape := ⟨2, ![1024, 1]⟩
abbrev S1024x512 : Shape := ⟨2, ![1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S16x64, .i32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S1024x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Steps.lean ====
/-
  The kernel's body as loops over the fifteen offsets. The printed body is one straight line of about 350 memory
  operations; it is the same four loops unrolled. This module writes the loops and proves that they are the printed body,
  so that each step of a loop need be reasoned about only once.
-/
module

public import proofs.«01_k».proof.Proof.Gen.KernelIdeal.Skeleton
public import proofs.«01_k».proof.Proof.Gen.KernelIdeal.Points

@[expose] public section

noncomputable section

namespace Cert.KernelIdeal.Lookup

open Cert.KernelIdeal Cert.KernelIdeal.Gen
open Idealize.ShloMosaic Idealize.SL.Sem

variable {F : FTy → Type} [FloatOps F]

/-- The programs one core runs. -/
abbrev P (F : FTy → Type) [FloatOps F] : Type → Type 1 := Prog (TpuEff nD τ sig (Elt F) Λ₀ .tc)

/-! ## The buffers, their slots and their semaphores -/

/-- The index array, staged. -/
abbrev xM : Memref sig .tc .vmem S16x64 .i32 := Memref.whole cc0_stg0_0
/-- The device's block of the table, staged. -/
abbrev tM : Memref sig .tc .vmem S4096x512 .f32 := Memref.whole cc0_stg1_0
/-- The result, staged. -/
abbrev oM : Memref sig .tc .vmem S1024x512 .f32 := Memref.whole cc0_stg2_0
/-- The block of the table in the short format. -/
abbrev bM : Memref sig .tc .vmem S4096x512 .bf16 := Memref.whole cc0_scratch0
/-- The sixteen slots the partial results are sent from. -/
abbrev p0M : Memref sig .tc .vmem S16x64x512 .f32 := Memref.whole cc0_scratch1
/-- The sixteen slots they arrive in. -/
abbrev p1M : Memref sig .tc .vmem S16x64x512 .f32 := Memref.whole cc0_scratch2
/-- The device's finished chunk. -/
abbrev rM : Memref sig .tc .vmem S64x512 .f32 := Memref.whole cc0_scratch3
/-- The sixteen slots the other devices' finished chunks arrive in. -/
abbrev p2M : Memref sig .tc .vmem S16x64x512 .f32 := Memref.whole cc0_scratch4

theorem slot_inb : ∀ s : Fin 16, ∀ a, (![s.val, 0, 0] : Fin 3 → Nat) a + S1x64x512.size a ≤ S16x64x512.size a := by decide
theorem sem_inb : ∀ s : Fin 16, ∀ a, (![s.val] : Fin 1 → Nat) a + S1.size a ≤ S16.size a := by decide

/-- The slot an offset uses: offset number `r` is a distance of `r + 1` devices and uses slot `r + 1`. -/
abbrev sl (r : Fin 15) : Fin 16 := r.succ

/-- The rows of a buffer of sixteen slots that slot `s` is. -/
abbrev slotRect (s : Fin 16) : Rect S16x64x512 := Rect.unit (s := S16x64x512) ![s.val, 0, 0] S1x64x512.size (slot_inb s)

/-- Slot `s` as a buffer of one chunk, the way the transfers and the waits name it. -/
abbrev slot (b : Memref sig .tc .vmem S16x64x512 .f32) (s : Fin 16) : Memref sig .tc .vmem S64x512 .f32 :=
  (b.slice (slotRect s) (fun _ => rfl)).squeeze S64x512 squeezes_S1x64x512_S64x512

/-- The semaphore of slot `s` in an array of sixteen. -/
def semAt (a : DmaSems sig S16) (s : Fin 16) : DmaSem sig :=
  ((a.slice (Rect.unit (s := S16) ![s.val] S1.size (sem_inb s))).squeeze S_ squeezes_S1_S_).sem

/-- The semaphore the devices meet on at the start. -/
abbrev barS : Sem sig := (SemArray.scalar (sig.barrier 0 rfl) : Sems sig S_).sem

/-! ## The device an offset leads to -/

/-- The device's own number along the mesh, as a word. -/
abbrev me (c : Dev nD) : BitVec 32 := Scalar.remsi (Scalar.divsi (Dev.word c) 1#32) 16#32

/-- A word reduced modulo sixteen the way the kernel reduces it: the remainder, moved up if it is negative. -/
abbrev wrapWord (x : BitVec 32) : BitVec 32 :=
  Scalar.select (Scalar.andi (Scalar.xori (Scalar.cmpi .slt (Scalar.remsi x (Scalar.select (Scalar.cmpi .eq 16#32 0#32) 1#32 16#32)) 0#32)
      (Scalar.cmpi .slt (Scalar.select (Scalar.cmpi .eq 16#32 0#32) 1#32 16#32) 0#32))
      (Scalar.cmpi .ne (Scalar.remsi x (Scalar.select (Scalar.cmpi .eq 16#32 0#32) 1#32 16#32)) 0#32))
    (Scalar.addi (Scalar.remsi x (Scalar.select (Scalar.cmpi .eq 16#32 0#32) 1#32 16#32)) (Scalar.select (Scalar.cmpi .eq 16#32 0#32) 1#32 16#32))
    (Scalar.remsi x (Scalar.select (Scalar.cmpi .eq 16#32 0#32) 1#32 16#32))

/-- The number of the device that offset `w` leads to from `c`, as the kernel computes it. -/
def devN (c : Dev nD) (w : BitVec 32) : Nat :=
  (Scalar.addi 0#32 (Scalar.muli (wrapWord (Scalar.addi (me c) w)) 1#32)).toNat

theorem devN_lt : ∀ (c : Dev nD) (r : Fin 15), devN c (BitVec.ofNat 32 (1 + r.val)) < nD := by decide +kernel

/-- The device that offset number `r` leads to from `c`. -/
def dst (c : Dev nD) (r : Fin 15) : Dev nD := ⟨devN c (BitVec.ofNat 32 (1 + r.val)), devN_lt c r⟩

/-! ## What the loops compute -/

/-- The partial result of a device for one row of the index array: the rows of its block of the table that the row
    names, zero where the row names none of them. -/
def gath (c : Dev nD) (row : Vec F S1x64 .i32) (tb : Vec F S4096x512 .bf16) : FVec F S1x64x512 .f32 :=
  k0_pay29 (Scalar.muli (me c) 4096#32) (iota .tc S64x4096 32 [1] iota_S64x4096_d1_w32) row tb

/-- A running total with one arrived partial result added. -/
def accum (acc : FVec F S64x512 .f32) (v : Vec F S1x64x512 .f32) : FVec F S64x512 .f32 :=
  addf acc (shapeCast S64x512 v shapeCasts_S1x64x512_S64x512)

/-- One slot's contents as a chunk. -/
def chunk (v : Vec F S1x64x512 .f32) : FVec F S64x512 .f32 := shapeCast S64x512 v shapeCasts_S1x64x512_S64x512

/-- What is stored as the finished chunk. -/
def fin (acc : FVec F S64x512 .f32) : FVec F S64x512 .f32 := shapeCast S64x512 acc shapeCasts_S64x512_S64x512

/-! ## The loops -/

/-- The fifteen offsets in the kernel's order. -/
abbrev offs : List (Fin 15) := [0, 1, 2, 3, 4, 5, 6, 7, 8, 9, 10, 11, 12, 13, 14]

/-- One step for each offset of a list, in order. -/
def each (f : Fin 15 → P F PUnit) : List (Fin 15) → P F PUnit
  | [] => pure ⟨⟩
  | r :: l => do f r; each f l

/-- One step for each offset of a list, in order, with a value handed on. -/
def fold {α : Type} (f : Fin 15 → α → P F α) : List (Fin 15) → α → P F α
  | [], a => pure a
  | r :: l, a => do let a' ← f r a; fold f l a'

/-- One unit to the barrier of the device the offset leads to. -/
def signalStep (c : Dev nD) (r : Fin 15) : P F PUnit := semSignalWord (dst c r) barS 1#32

/-- Load the index row `off` and the table, and store the partial result into slot `s`. -/
def gatherInto (c : Dev nD) (off : Fin 2 → Nat) (hoff : ∀ a, off a + S1x64.size a ≤ S16x64.size a) (s : Fin 16) : P F PUnit := do
  let row : Vec F S1x64 .i32 ← Prog.lift (.load xM (Rect.unit (s := S16x64) off S1x64.size hoff).toLoadRect (View.loadsAt_vmem h_S1x64))
  let tb : Vec F S4096x512 .bf16 ← Prog.lift (.load bM (Rect.unit (s := S4096x512) ![0, 0] S4096x512.size inb_S4096x512_S4096x512_0_0).toLoadRect (View.loadsAt_vmem h_S4096x512))
  let _ : Vec F S1x64x512 .f32 ← Prog.lift (.load p0M (slotRect s).toLoadRect (View.loadsAt_vmem h_S1x64x512))
  Prog.lift (.store p0M (slotRect s) (gath c row tb) Finset.univ (View.stores_vmem_bits_univ h_S1x64x512 rfl) (.inl rfl))

/-- Compute the partial result for the device the offset leads to, and send it there. -/
def gatherStep (c : Dev nD) (r : Fin 15) : P F PUnit := do
  gatherInto c (k0_off1 c (BitVec.ofNat 32 (1 + r.val))) (k0_off1_inb c r) (sl r)
  Prog.lift (.enqueueDma (slot p0M (sl r)) (.remote (Dev.tc (dst c r)) (slot p1M (sl r)) (.dma (semAt cc0_scratch5 (sl r)))) (.dma (semAt cc0_scratch6 (sl r)))
    ((View.wordExact_bits rfl).reshape _ _) ((View.wordExact_bits rfl).reshape _ _) ⟨⟨rfl, Or.inl rfl⟩, trivial⟩)

/-- Wait for the partial result at the offset's slot and add it. -/
def accumStep (r : Fin 15) (acc : FVec F S64x512 .f32) : P F (FVec F S64x512 .f32) := do
  Prog.lift (.waitDma2 (semAt cc0_scratch6 (sl r)) (slot p0M (sl r)) (slot p1M (sl r)) ((View.wordExact_bits rfl).reshape _ _) ((View.wordExact_bits rfl).reshape _ _))
  let v : Vec F S1x64x512 .f32 ← Prog.lift (.load p1M (slotRect (sl r)).toLoadRect (View.loadsAt_vmem h_S1x64x512))
  pure (accum acc v)

/-- Send the finished chunk to the device the offset leads to. -/
def spreadStep (c : Dev nD) (r : Fin 15) : P F PUnit :=
  Prog.lift (.enqueueDma rM (.remote (Dev.tc (dst c r)) (slot p2M (sl r)) (.dma (semAt cc0_scratch7 (sl r)))) (.dma (semAt cc0_scratch8 (sl r)))
    (Memref.isWhole_whole _).wordExact ((View.wordExact_bits rfl).reshape _ _) ⟨⟨rfl, Or.inl rfl⟩, trivial⟩)

/-- Wait until the partial result sent to the offset has left. -/
def leftStep (r : Fin 15) : P F PUnit :=
  Prog.lift (.waitDma2 (semAt cc0_scratch5 (sl r)) (slot p1M (sl r)) (slot p0M (sl r)) ((View.wordExact_bits rfl).reshape _ _) ((View.wordExact_bits rfl).reshape _ _))

/-- Wait for the finished chunk at the offset's slot and store it into the result. -/
def collectStep (c : Dev nD) (r : Fin 15) : P F PUnit := do
  Prog.lift (.waitDma2 (semAt cc0_scratch8 (sl r)) rM (slot p2M (sl r)) (Memref.isWhole_whole _).wordExact ((View.wordExact_bits rfl).reshape _ _))
  let v : Vec F S1x64x512 .f32 ← Prog.lift (.load p2M (slotRect (sl r)).toLoadRect (View.loadsAt_vmem h_S1x64x512))
  let _ : Vec F S64x512 .f32 ← Prog.lift (.load oM (Rect.unit (s := S1024x512) (k0_off4 c (BitVec.ofNat 32 (1 + r.val))) S64x512.size (k0_off4_inb c r)).toLoadRect (View.loadsAt_vmem h_S64x512))
  Prog.lift (.store oM (Rect.unit (s := S1024x512) (k0_off4 c (BitVec.ofNat 32 (1 + r.val))) S64x512.size (k0_off4_inb c r)) (chunk v) Finset.univ (View.stores_vmem_bits_univ h_S64x512 rfl) (.inl rfl))

/-- Wait until the finished chunk sent to the offset has left. -/
def spreadLeftStep (r : Fin 15) : P F PUnit :=
  Prog.lift (.waitDma2 (semAt cc0_scratch7 (sl r)) (slot p2M (sl r)) rM ((View.wordExact_bits rfl).reshape _ _) (Memref.isWhole_whole _).wordExact)

/-- The last part: wait for what was sent first, collect the others' chunks, wait for what was sent second. -/
def tailProg (c : Dev nD) : P F PUnit := do
  each leftStep offs
  each (collectStep c) offs
  each spreadLeftStep offs

/-- The chunk the device finishes: its own partial result and the fifteen others. -/
def midProg (c : Dev nD) : P F PUnit := do
  let v0 : Vec F S1x64x512 .f32 ← Prog.lift (.load p0M (slotRect 0).toLoadRect (View.loadsAt_vmem h_S1x64x512))
  let acc ← fold accumStep offs (chunk v0)
  let _ : Vec F S64x512 .f32 ← Prog.lift (.load rM (Rect.unit (s := S64x512) ![0, 0] S64x512.size inb_S64x512_S64x512_0_0).toLoadRect (View.loadsAt_vmem h_S64x512))
  Prog.lift (.store rM (Rect.unit (s := S64x512) ![0, 0] S64x512.size inb_S64x512_S64x512_0_0) (fin acc) Finset.univ (View.stores_vmem_bits_univ h_S64x512 rfl) (.inl rfl))
  each (spreadStep c) offs
  let v : Vec F S64x512 .f32 ← Prog.lift (.load rM (Rect.unit (s := S64x512) ![0, 0] S64x512.size inb_S64x512_S64x512_0_0).toLoadRect (View.loadsAt_vmem h_S64x512))
  let _ : Vec F S64x512 .f32 ← Prog.lift (.load oM (Rect.unit (s := S1024x512) (k0_off3 c) S64x512.size (k0_off3_inb c)).toLoadRect (View.loadsAt_vmem h_S64x512))
  Prog.lift (.store oM (Rect.unit (s := S1024x512) (k0_off3 c) S64x512.size (k0_off3_inb c)) v Finset.univ (View.stores_vmem_bits_univ h_S64x512 rfl) (.inl rfl))
  tailProg c

/-- The first part: meet on the barrier, cast the table, send the partial results, compute the device's own. -/
def headProg (c : Dev nD) : P F PUnit := do
  each (signalStep c) offs
  semWaitWord barS 15#32
  let t : Vec F S4096x512 .f32 ← Prog.lift (.load tM (Rect.unit (s := S4096x512) ![0, 0] S4096x512.size inb_S4096x512_S4096x512_0_0).toLoadRect (View.loadsAt_vmem h_S4096x512))
  let _ : Vec F S4096x512 .bf16 ← Prog.lift (.load bM (Rect.unit (s := S4096x512) ![0, 0] S4096x512.size inb_S4096x512_S4096x512_0_0).toLoadRect (View.loadsAt_vmem h_S4096x512))
  Prog.lift (.store bM (Rect.unit (s := S4096x512) ![0, 0] S4096x512.size inb_S4096x512_S4096x512_0_0) (k0_pay1 t) Finset.univ
    (View.stores_vmem h_S4096x512 ((Memref.isWhole_whole _).storeExact_slice rfl _ packedbf16_S4096x512_S4096x512_0_0) (fun _ => rfl)) (.inl rfl))
  each (gatherStep c) offs
  gatherInto c (k0_off2 c) (k0_off2_inb c) 0
  midProg c

/-- The whole body. -/
def bodyProg : P F PUnit := do
  let c : Dev nD ← Prog.lift .deviceId
  headProg c

set_option maxRecDepth 65536 in
set_option maxHeartbeats 4000000 in
/-- The printed body, at the buffers the launch gives it, is the loops. -/
theorem body_eq : cc0_body (F := F) (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 = bodyProg := by
  rw [cc0_body_eq_skeleton]
  rfl

attribute [irreducible] dst semAt

end Cert.KernelIdeal.Lookup

end
-- ==== Proof.Protocol.lean ====
/-
  The protocol of the kernel, as one round of payments on semaphores.

  Sixteen devices; an offset `r : Fin 15` is a distance of `r + 1` devices. `dst c r` is the device the offset leads to from
  `c`, `src c r` the device it leads to `c` from. Offset `r` uses slot `r + 1` of every buffer of sixteen slots.

  · The barrier of device `d` is signalled once by each other device and waited for once, for fifteen. The signal that comes
    over offset `r` (from `src d r`) hands `d` the slot of that device's two landing buffers that `d` is going to write: so no
    transfer starts before its target has entered the kernel.
  · The first transfer over offset `r` takes slot `r + 1` of `c`'s partial results to slot `r + 1` of the first landing buffer
    of `dst c r`. Its landing hands the receiver the slot, holding the partial result; its leaving hands the sender its slot back.
  · The second transfer over offset `r` takes `c`'s finished chunk to slot `r + 1` of the second landing buffer of `dst c r`.
    Fifteen of them read the finished chunk at once, so each holds a sixteenth of it; the device keeps the last sixteenth.

  A device waits on its barrier while it owes landings of both kinds, for the first landings while it owes the second ones, and
  for everything else while it owes nothing. So barriers are level 1, first landings level 2, second landings level 3.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.KernelIdeal.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's payments, named by offset. -/
abbrev UB : Type := URounds (GSem nD τ sig) (Fin 15)
/-- The staging's payments and the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## Offsets -/

/-- Offset `r` leads `r + 1` devices on. -/
theorem dst_val : ∀ (c : Dev nD) (r : Fin 15), (dst c r).val = (c.val + 1 + r.val) % 16 := by decide +kernel
/-- The device offset `r` leads to `c` from. -/
abbrev src (c : Dev nD) (r : Fin 15) : Dev nD := dst c (Fin.rev r)
theorem src_dst (c : Dev nD) (r : Fin 15) : src (dst c r) r = c := by
  apply Fin.ext; rw [dst_val, dst_val, Fin.val_rev]
  have hc := c.isLt; have hr := r.isLt; change c.val < 16 at hc; omega
theorem dst_src (c : Dev nD) (r : Fin 15) : dst (src c r) r = c := by
  have h := src_dst c (Fin.rev r); unfold src at h; rwa [Fin.rev_rev] at h
/-- The devices moved along by one offset. -/
def shift (r : Fin 15) : Dev nD ≃ Dev nD := ⟨fun c => dst c r, fun c => src c r, fun c => src_dst c r, fun c => dst_src c r⟩
/-- The offsets in the opposite order. -/
def flip : Fin 15 ≃ Fin 15 := ⟨Fin.rev, Fin.rev, Fin.rev_rev, Fin.rev_rev⟩
theorem dst_injective (c : Dev nD) {r r' : Fin 15} (h : dst c r = dst c r') : r = r' := by
  have h' := congrArg Fin.val h
  rw [dst_val, dst_val] at h'
  have := r.isLt; have := r'.isLt; have hc := c.isLt; change c.val < 16 at hc; exact Fin.ext (by omega)

/-! ## The semaphores of the protocol -/

/-- The barrier, or one of four kinds at an offset: first transfer leaving, first landing, second leaving, second landing. -/
abbrev Kix : Type := Unit ⊕ (Fin 4 × Fin 15)

/-- The four arrays of semaphores. -/
abbrev semArr : Fin 4 → DmaSems sig S16 := fun | 0 => cc0_scratch5 | 1 => cc0_scratch6 | 2 => cc0_scratch7 | 3 => cc0_scratch8
abbrev csem : Kix → SemLoc sig
  | .inl _ => .reg barS
  | .inr jr => .dma (semAt (semArr jr.1) (sl jr.2))

/-- Which semaphore of the protocol one is, if it is one. -/
def ofSem : SemLoc sig → Option Kix
  | .reg s => if s = barS then some (.inl ()) else none
  | .dma q => if h : 3 ≤ q.val ∧ (q.val - 3) % 16 ≠ 0 then
      some (.inr (⟨(q.val - 3) / 16 % 4, Nat.mod_lt _ (by decide)⟩, ⟨((q.val - 3) % 16 - 1) % 15, Nat.mod_lt _ (by decide)⟩)) else none

theorem ofSem_csem : ∀ k : Kix, ofSem (csem k) = some k := by decide +kernel
theorem csem_injective : Function.Injective csem := fun a b h => by
  have := congrArg ofSem h; rw [ofSem_csem, ofSem_csem] at this; exact Option.some.inj this

abbrev kcell (ck : Dev nD × Kix) : GSem nD τ sig := ((ck.1 : Thread nD τ), csem ck.2)
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

abbrev barCell (c : Dev nD) : GSem nD τ sig := ((c : Thread nD τ), .reg barS)
abbrev s1Cell (c : Dev nD) (r : Fin 15) : GSem nD τ sig := ((c : Thread nD τ), .dma (semAt cc0_scratch5 (sl r)))
abbrev v1Cell (c : Dev nD) (r : Fin 15) : GSem nD τ sig := ((c : Thread nD τ), .dma (semAt cc0_scratch6 (sl r)))
abbrev s2Cell (c : Dev nD) (r : Fin 15) : GSem nD τ sig := ((c : Thread nD τ), .dma (semAt cc0_scratch7 (sl r)))
abbrev v2Cell (c : Dev nD) (r : Fin 15) : GSem nD τ sig := ((c : Thread nD τ), .dma (semAt cc0_scratch8 (sl r)))

theorem ofSem_bar : ofSem (.reg barS) = some (.inl ()) := by decide
theorem ofSem_s1 (r : Fin 15) : ofSem (.dma (semAt cc0_scratch5 (sl r))) = some (.inr (0, r)) := ofSem_csem (.inr (0, r))
theorem ofSem_v1 (r : Fin 15) : ofSem (.dma (semAt cc0_scratch6 (sl r))) = some (.inr (1, r)) := ofSem_csem (.inr (1, r))
theorem ofSem_s2 (r : Fin 15) : ofSem (.dma (semAt cc0_scratch7 (sl r))) = some (.inr (2, r)) := ofSem_csem (.inr (2, r))
theorem ofSem_v2 (r : Fin 15) : ofSem (.dma (semAt cc0_scratch8 (sl r))) = some (.inr (3, r)) := ofSem_csem (.inr (3, r))

/-- What one chunk's transfer credits. -/
abbrev N : ℕ := rM.view.dmaCredit
theorem N_pos : 0 < N := View.dmaCredit_pos _ (by decide)
/-- Every slot of every buffer credits the same. -/
theorem credit_p0 (s : Fin 16) : (slot p0M s).view.dmaCredit = N := by
  show sig.dmaCredit _ _ _ _ _ = sig.dmaCredit _ _ _ _ _
  rfl
theorem credit_p1 (s : Fin 16) : (slot p1M s).view.dmaCredit = N := by
  show sig.dmaCredit _ _ _ _ _ = sig.dmaCredit _ _ _ _ _
  rfl
theorem credit_p2 (s : Fin 16) : (slot p2M s).view.dmaCredit = N := by
  show sig.dmaCredit _ _ _ _ _ = sig.dmaCredit _ _ _ _ _
  rfl

/-! ## What the buffers hold -/

/-- The index array as the kernel finds it on device `c`. -/
def xstg (c : Dev nD) : (cc0_stg0_0 : Ref sig .tc).ty.Contents (Elt F) :=
  (win0_0.blk (0 : Fin 1)).view.read (Elt F) ((s₀ m ρ).mem ((c : Thread nD τ).loc main_arg1))
/-- Device `c`'s block of the table as the kernel finds it. -/
def tstg (c : Dev nD) : (cc0_stg1_0 : Ref sig .tc).ty.Contents (Elt F) :=
  (win0_1.blk (0 : Fin 1)).view.read (Elt F) ((s₀ m ρ).mem ((c : Thread nD τ).loc main_arg0))
/-- The block in the short format. -/
def bstg (c : Dev nD) : (cc0_scratch0 : Ref sig .tc).ty.Contents (Elt F) := k0_pay1 (tstg m ρ c)

/-- A row of an index array. -/
abbrev rowAt (off : Fin 2 → Nat) (hoff : ∀ a, off a + S1x64.size a ≤ S16x64.size a) (x : (cc0_stg0_0 : Ref sig .tc).ty.Contents (Elt F)) : Vec F S1x64 .i32 :=
  xM.view.readAt (Elt F) (Rect.unit (s := S16x64) off S1x64.size hoff).toLoadRect x

/-- The partial result device `c` makes for the row at `off`, as a chunk. -/
def partAt (c : Dev nD) (off : Fin 2 → Nat) (hoff : ∀ a, off a + S1x64.size a ≤ S16x64.size a) : FVec F S64x512 .f32 :=
  chunk (gath c (rowAt off hoff (xstg m ρ c)) (bstg m ρ c))
/-- The one it makes for the device that offset `r` leads to. -/
def partTo (c : Dev nD) (r : Fin 15) : FVec F S64x512 .f32 := partAt m ρ c (k0_off1 c (BitVec.ofNat 32 (1 + r.val))) (k0_off1_inb c r)
/-- The one it makes for itself. -/
def partOwn (c : Dev nD) : FVec F S64x512 .f32 := partAt m ρ c (k0_off2 c) (k0_off2_inb c)
/-- A running total with the partial result that arrives over offset `r` added. -/
def addIn (c : Dev nD) (acc : FVec F S64x512 .f32) (r : Fin 15) : FVec F S64x512 .f32 := addf acc (partTo m ρ (src c r) r)
/-- The chunk device `c` finishes. -/
def red (c : Dev nD) : FVec F S64x512 .f32 := fin (offs.foldl (addIn m ρ c) (partOwn m ρ c))
/-- Where an index of the result array is within its chunk. -/
abbrev within (i : S1024x512.Idx) : S64x512.Idx :=
  fun | ⟨0, _⟩ => ⟨(i 0).val % 64, Nat.mod_lt _ (by decide)⟩ | ⟨1, _⟩ => i 1
/-- The result: chunk `k` is what device `k` finishes. It does not depend on the device that holds it. -/
def outAt : (cc0_stg2_0 : Ref sig .tc).ty.Contents (Elt F) := fun i =>
  red m ρ ⟨(i 0).val / 64, by have h : (i 0).val < 1024 := (i 0).isLt; show _ < 16; omega⟩ (within i)

/-- Slot `s` of `b` on device `c` holds the chunk `W`. -/
def full (b : Memref sig .tc .vmem S16x64x512 .f32) (c : Dev nD) (s : Fin 16) (W : FVec F S64x512 .f32) : sProp 𝕄 :=
  owns (c : Thread nD τ) (slot b s) fullShare W
/-- Slot `s` of `b` on device `c`, whatever it holds. -/
def free (b : Memref sig .tc .vmem S16x64x512 .f32) (c : Dev nD) (s : Fin 16) : sProp 𝕄 := iprop(∃ W, full b c s W)
/-- The finished chunk's buffer on device `c` at a share. -/
def redPts (c : Dev nD) (q : PosShare TreeShare) (f : (cc0_scratch3 : Ref sig .tc).ty.Contents (Elt F)) : sProp 𝕄 :=
  rM.view.loc (c : Thread nD τ) ↦[rM.view.set]{q} f
/-- The sixteenth of the finished chunk that slot `s` uses. -/
abbrev sixteenth (s : Fin 16) : PosShare TreeShare := ShareLeaves.leaf 4 fullShare s

omit [FloatOps F] in
instance full_storable (b : Memref sig .tc .vmem S16x64x512 .f32) (c : Dev nD) (s : Fin 16) (W : FVec F S64x512 .f32) :
    BI.Storable (upEmb : UEmb _ 𝕄) (full (F := F) b c s W) := by unfold full; infer_instance
omit [FloatOps F] in
instance free_storable (b : Memref sig .tc .vmem S16x64x512 .f32) (c : Dev nD) (s : Fin 16) :
    BI.Storable (upEmb : UEmb _ 𝕄) (free (F := F) b c s) := by unfold free; infer_instance
omit [FloatOps F] in
instance redPts_storable (c : Dev nD) (q : PosShare TreeShare) (f : (cc0_scratch3 : Ref sig .tc).ty.Contents (Elt F)) :
    BI.Storable (upEmb : UEmb _ 𝕄) (redPts (F := F) c q f) := by unfold redPts; infer_instance

/-! ## The schedule -/

/-- The signal over offset `r` to `d`'s barrier hands `d` the two slots it is going to write on the signaller. -/
def barPay (d : Dev nD) (r : Fin 15) : sProp 𝕄 :=
  iprop(free p1M (dst d (Fin.rev r)) (sl (Fin.rev r)) ∗ free p2M (dst d (Fin.rev r)) (sl (Fin.rev r)))

/-- The payments of a semaphore of the protocol: fifteen of one for a barrier, one of a chunk's credit for a transfer. -/
def dutiesOf : Option Kix → Finset (Fin 15)
  | none => ∅
  | some (.inl _) => Finset.univ
  | some (.inr _) => {0}
def amountOf' : Option Kix → ℕ
  | some (.inr _) => N
  | _ => 1
/-- What a payment hands over. -/
def payOf (c : Dev nD) (d : Fin 15) : Option Kix → sProp 𝕄
  | none => iprop(emp)
  | some (.inl _) => barPay c d
  | some (.inr (0, r)) => free p0M c (sl r)
  | some (.inr (1, r)) => full p1M c (sl r) (partTo m ρ (src c r) r)
  | some (.inr (2, r)) => redPts c (sixteenth (sl r)) (red m ρ c)
  | some (.inr (3, r)) => full p2M c (sl r) (red m ρ (src c r))

theorem payOf_bar (c : Dev nD) (d : Fin 15) : payOf (F := F) m ρ c d (some (.inl ())) = barPay c d := rfl
theorem payOf_s1 (c : Dev nD) (d r : Fin 15) : payOf (F := F) m ρ c d (some (.inr (0, r))) = free p0M c (sl r) := rfl
theorem payOf_v1 (c : Dev nD) (d r : Fin 15) : payOf (F := F) m ρ c d (some (.inr (1, r))) = full p1M c (sl r) (partTo m ρ (src c r) r) := rfl
theorem payOf_s2 (c : Dev nD) (d r : Fin 15) : payOf (F := F) m ρ c d (some (.inr (2, r))) = redPts c (sixteenth (sl r)) (red m ρ c) := rfl
theorem payOf_v2 (c : Dev nD) (d r : Fin 15) : payOf (F := F) m ρ c d (some (.inr (3, r))) = full p2M c (sl r) (red m ρ (src c r)) := rfl

theorem amountOf'_pos (o : Option Kix) : 0 < amountOf' o := by
  unfold amountOf'; split
  · exact N_pos
  · exact Nat.one_pos

/-- One round on every semaphore of the protocol, nothing after it. -/
def sched : Rounds.Schedule (GSem nD τ sig) (Fin 15) 𝕄 where
  duties g r := if r = 0 ∧ g.1.2 = .tc then dutiesOf (ofSem g.2) else ∅
  unitless _ := False
  amount g _ _ := amountOf' (ofSem g.2)
  payload g _ d := payOf m ρ g.1.1 d (ofSem g.2)
  amount_pos g _ _ _ := amountOf'_pos _

instance payOf_storable (c : Dev nD) (d : Fin 15) (o : Option Kix) : BI.Storable (upEmb : UEmb _ 𝕄) (payOf (F := F) m ρ c d o) := by
  unfold payOf barPay; split <;> infer_instance
instance sched_payload_storable (g : GSem nD τ sig) (r : ℕ) (d : Fin 15) :
    BI.Storable (upEmb : UEmb _ 𝕄) ((sched (F := F) m ρ).payload g r d) := payOf_storable m ρ _ _ _

theorem duties_at (c : Dev nD) (k : Kix) : (sched (F := F) m ρ).duties (kcell (c, k)) 0 = dutiesOf (some k) := by
  dsimp only [sched]
  rw [if_pos ⟨rfl, rfl⟩]; exact congrArg dutiesOf (ofSem_csem k)
theorem duties_later (g : GSem nD τ sig) : ∀ r, 1 ≤ r → (sched (F := F) m ρ).duties g r = ∅ :=
  fun r hr => by dsimp only [sched]; rw [if_neg fun h => by omega]
theorem amount_at (c : Dev nD) (k : Kix) (d : Fin 15) : (sched (F := F) m ρ).amount (kcell (c, k)) 0 d = amountOf' (some k) :=
  congrArg amountOf' (ofSem_csem k)
theorem payload_at (c : Dev nD) (k : Kix) (d : Fin 15) : (sched (F := F) m ρ).payload (kcell (c, k)) 0 d = payOf m ρ c d (some k) :=
  congrArg (payOf m ρ c d) (ofSem_csem k)

theorem duties_bar (c : Dev nD) : (sched (F := F) m ρ).duties (barCell c) 0 = Finset.univ := duties_at m ρ c (.inl ())
/-- Every transfer's semaphore has one payment. -/
theorem duties_xfer (c : Dev nD) (j : Fin 4) (r : Fin 15) : (sched (F := F) m ρ).duties (kcell (c, .inr (j, r))) 0 = {0} := duties_at m ρ c (.inr (j, r))
theorem expect_bar (c : Dev nD) : (sched (F := F) m ρ).expect (barCell c) 0 = 15 := by
  unfold Schedule.expect Schedule.amountOf
  rw [duties_bar, Finset.sum_congr rfl fun d _ => amount_at m ρ c (.inl ()) d, Finset.sum_const]; rfl
theorem expect_xfer (c : Dev nD) (j : Fin 4) (r : Fin 15) : (sched (F := F) m ρ).expect (kcell (c, .inr (j, r))) 0 = N := by
  unfold Schedule.expect Schedule.amountOf; rw [duties_xfer, Finset.sum_singleton, amount_at]; rfl

/-- What the barrier's wait hands over: the slots the device is going to write, offset by offset. -/
theorem rest_bar (c : Dev nD) : bigSep ((sched (F := F) m ρ).duties (barCell c) 0 \ ∅) (fun d => (sched (F := F) m ρ).payload (barCell c) 0 d)
    = bigSep Finset.univ fun r => iprop(free p1M (dst c r) (sl r) ∗ free p2M (dst c r) (sl r)) := by
  rw [Finset.sdiff_empty, duties_bar, bigSep_univ_equiv flip (fun r => iprop(free p1M (dst c r) (sl r) ∗ free p2M (dst c r) (sl r)))]
  exact bigSep_congr fun r _ => payload_at m ρ c (.inl ()) r
/-- What a transfer's wait hands over. -/
theorem rest_xfer (c : Dev nD) (j : Fin 4) (r : Fin 15) :
    bigSep ((sched (F := F) m ρ).duties (kcell (c, .inr (j, r))) 0 \ ∅) (fun d => (sched (F := F) m ρ).payload (kcell (c, .inr (j, r))) 0 d)
      = payOf m ρ c 0 (some (.inr (j, r))) := by
  rw [Finset.sdiff_empty, duties_xfer, bigSep_singleton, payload_at]

/-! ## What a device owes, and the levels -/

/-- Something owed for every offset of a list, on top of `O`, the first of the list last. -/
def stack (O : CellTallies nD τ sig Unit) (f : Fin 15 → CellTallies nD τ sig Unit) : List (Fin 15) → CellTallies nD τ sig Unit
  | [] => O
  | r :: l => stack O f l + f r

/-- The second landings a device owes, -/
def O₂ (c : Dev nD) : CellTallies nD τ sig Unit := stack 0 (fun r => tallyAt (v2Cell (dst c r) r) () N) offs
/-- with the first ones, -/
def O₁ (c : Dev nD) : CellTallies nD τ sig Unit := stack (O₂ c) (fun r => tallyAt (v1Cell (dst c r) r) () N) offs
/-- with the barrier's units. -/
def O₀ (c : Dev nD) : CellTallies nD τ sig Unit := stack (O₁ c) (fun r => tallyAt (barCell (dst c r)) () 1) offs

def L (g : GSem nD τ sig) : Finset Unit := if g.1.2 = .tc then {()} else ∅
def lvOf : Option Kix → ℕ
  | some (.inl _) => 1
  | some (.inr (1, _)) => 2
  | some (.inr (3, _)) => 3
  | _ => 0
def lv (g : GSem nD τ sig) (_ : Unit) : ℕ := lvOf (ofSem g.2)

theorem L_of_ne (g : GSem nD τ sig) (h : g.1.2 ≠ .tc) : L g = ∅ := if_neg h
theorem L_tc (c : Dev nD) (sm : SemLoc sig) : L ((c : Thread nD τ), sm) = {()} := if_pos rfl

/-- What is owed at all is owed by the base or by one of the offsets. -/
theorem stack_pos {O : CellTallies nD τ sig Unit} {f : Fin 15 → CellTallies nD τ sig Unit} {g : GSem nD τ sig} {u : Unit} :
    ∀ l : List (Fin 15), 0 < stack O f l g u → 0 < O g u ∨ ∃ r, 0 < f r g u
  | [], h => .inl h
  | r :: l, h => by
    unfold stack at h; rw [Pi.add_apply, Finsupp.add_apply] at h
    rcases Nat.eq_zero_or_pos (f r g u) with h0 | h0
    · rw [h0, Nat.add_zero] at h; exact stack_pos l h
    · exact .inr ⟨r, h0⟩
theorem tallyAt_pos {g g' : GSem nD τ sig} {u : Unit} {n : ℕ} (h : 0 < tallyAt g' () n g u) : g = g' := by
  rw [tallyAt_apply] at h
  by_contra hn
  rw [if_neg fun h' => hn h'.1] at h; exact absurd h (Nat.lt_irrefl 0)

theorem O₂_pos {c : Dev nD} {g : GSem nD τ sig} {u : Unit} (h : 0 < O₂ c g u) : ∃ r, g = v2Cell (dst c r) r :=
  (stack_pos _ h).elim (fun h => absurd h (Nat.lt_irrefl 0)) fun ⟨r, h⟩ => ⟨r, tallyAt_pos h⟩
theorem O₁_pos {c : Dev nD} {g : GSem nD τ sig} {u : Unit} (h : 0 < O₁ c g u) : ∃ r, g = v2Cell (dst c r) r ∨ g = v1Cell (dst c r) r :=
  (stack_pos _ h).elim (fun h => (O₂_pos h).imp fun _ => .inl) fun ⟨r, h⟩ => ⟨r, .inr (tallyAt_pos h)⟩
theorem O₀_pos {c : Dev nD} {g : GSem nD τ sig} {u : Unit} (h : 0 < O₀ c g u) :
    ∃ r, g = v2Cell (dst c r) r ∨ g = v1Cell (dst c r) r ∨ g = barCell (dst c r) :=
  (stack_pos _ h).elim (fun h => (O₁_pos h).imp fun _ h => h.imp_right .inl) fun ⟨r, h⟩ => ⟨r, .inr (.inr (tallyAt_pos h))⟩

theorem lv_bar (c : Dev nD) : lv (barCell c) () = 1 := by unfold lv; rw [ofSem_bar]; rfl
theorem lv_v1 (c : Dev nD) (r : Fin 15) : lv (v1Cell c r) () = 2 := by unfold lv; rw [ofSem_v1]; rfl
theorem lv_v2 (c : Dev nD) (r : Fin 15) : lv (v2Cell c r) () = 3 := by unfold lv; rw [ofSem_v2]; rfl

/-- A device may wait on one of its semaphores at level at most `n` while all it owes is above `n`. -/
theorem mayWait_of (c : Dev nD) (sm : SemLoc sig) (n : ℕ) (O : CellTallies nD τ sig Unit) (hs : lv ((c : Thread nD τ), sm) () ≤ n)
    (hO : ∀ g u, 0 < O g u → g.1.2 = .tc ∧ n < lv g ()) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem mayWait_stage (c : Dev nD) (q : DmaSem sig) (hq : lv ((c : Thread nD τ), .dma q) () ≤ 0) (O : CellTallies nD τ sig Unit) (hO : O = O₀ c ∨ O = 0) :
    (levAts L lv : sProp 𝕄) ⊢ MayWait (c : Thread nD τ) (.dma q) () O := by
  rcases hO with rfl | rfl
  · refine mayWait_of c _ 0 _ hq fun g u hg => ?_
    obtain ⟨r, rfl | rfl | rfl⟩ := O₀_pos hg
    · exact ⟨rfl, by rw [lv_v2]; decide⟩
    · exact ⟨rfl, by rw [lv_v1]; decide⟩
    · exact ⟨rfl, by rw [lv_bar]; decide⟩
  · rw [MayWait_zero]; iintro -; iempintro
theorem mayWait_bar (c : Dev nD) : (levAts L lv : sProp 𝕄) ⊢ MayWait (c : Thread nD τ) (.reg barS) () (O₁ c) := by
  refine mayWait_of c _ 1 _ (by rw [lv_bar]) fun g u hg => ?_
  obtain ⟨r, rfl | rfl⟩ := O₁_pos hg
  · exact ⟨rfl, by rw [lv_v2]; decide⟩
  · exact ⟨rfl, by rw [lv_v1]; decide⟩
theorem mayWait_v1 (c : Dev nD) (r : Fin 15) : (levAts L lv : sProp 𝕄) ⊢ MayWait (c : Thread nD τ) (.dma (semAt cc0_scratch6 (sl r))) () (O₂ c) := by
  refine mayWait_of c _ 2 _ (by rw [lv_v1]) fun g u hg => ?_
  obtain ⟨r, rfl⟩ := O₂_pos hg
  exact ⟨rfl, by rw [lv_v2]; decide⟩

/-! ## What every device may use of every other -/

/-- Every semaphore of the protocol is run by the schedule, and its round has begun. -/
def records (K : Dev nD × Kix → ℕ) : sProp 𝕄 :=
  iprop((bigSep Finset.univ fun ck : Dev nD × Kix => cellInv ER (sched m ρ) (K ck) (kcell ck))
    ∗ bigSep Finset.univ fun ck : Dev nD × Kix => reached ER (kcell ck) 0)
instance records_persistent (K : Dev nD × Kix → ℕ) : BI.Persistent (records m ρ K) := by unfold records; infer_instance

theorem inv_all_at (K : Dev nD × Kix → ℕ) (ck : Dev nD × Kix) :
    (bigSep Finset.univ fun ck : Dev nD × Kix => (cellInv ER (sched m ρ) (K ck) (kcell ck) : sProp 𝕄)) ⊢ cellInv ER (sched m ρ) (K ck) (kcell ck) :=
  bigSep_elim (Finset.mem_univ ck)
theorem reached_all_at (ck : Dev nD × Kix) :
    (bigSep Finset.univ fun ck : Dev nD × Kix => (reached ER (kcell ck) 0 : sProp 𝕄)) ⊢ reached ER (kcell ck) 0 :=
  bigSep_elim (Finset.mem_univ ck)
theorem inv_at (K : Dev nD × Kix → ℕ) (c : Dev nD) (k : Kix) : records m ρ K ⊢ cellInv ER (sched m ρ) (K (c, k)) (kcell (c, k)) := by
  unfold records; iintro ⟨H, -⟩
  iapply (inv_all_at m ρ K (c, k)); iexact H
theorem reached_at (K : Dev nD × Kix → ℕ) (c : Dev nD) (k : Kix) : records m ρ K ⊢ reached ER (kcell (c, k)) 0 := by
  unfold records; iintro ⟨-, H⟩
  iapply (reached_all_at (F := F) (c, k)); iexact H

end Cert.KernelIdeal.Lookup

end
-- ==== Proof.Moves.lean ====
/-
  One step of each kind, and a loop of steps: what each needs and what it leaves. The loops' invariants are lists of what the
  steps still to come need and what the steps done have left, and one state that every step hands on.
-/
module

public import proofs.«01_k».proof.Proof.Protocol

@[expose] public section

noncomputable section

namespace Cert.KernelIdeal.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c`'s core runs `p` to `Q`. -/
abbrev run (c : Dev nD) {α : Type} (p : P F α) (Q : α → sProp 𝕄) : sProp 𝕄 :=
  wp frame (wpE (defs₀ (F := F)) 𝒱₀ (c : Thread nD τ) none) Set.univ p Q

/-- What device `c` still owes, whatever it has waited for. -/
def owing (c : Dev nD) (O : CellTallies nD τ sig Unit) : sProp 𝕄 := iprop(∃ W : Waits sig Unit, owes (c : Thread nD τ) O W)

/-! ## Loops -/

theorem list_cons (i : Fin 15) (l : List (Fin 15)) (Φ : Fin 15 → sProp 𝕄) : bigSepL (i :: l) Φ = iprop(Φ i ∗ bigSepL l Φ) := bigSepL_cons i l Φ
/-- All the offsets at once, or one by one in the kernel's order. -/
theorem list_all (Φ : Fin 15 → sProp 𝕄) : bigSep Finset.univ Φ = bigSepL offs Φ := bigSep_univ_eq_bigSepL offs (by decide) (by decide) Φ

/-- A loop of steps, each of which turns its own `A r` into `B r` and moves the state on. -/
theorem each_run (c : Dev nD) (f : Fin 15 → P F PUnit) (S : List (Fin 15) → sProp 𝕄) (A B : Fin 15 → sProp 𝕄)
    (step : ∀ r l (Q : PUnit → sProp 𝕄), iprop(S (r :: l) ∗ A r ∗ (S l ∗ B r -∗ Q ⟨⟩)) ⊢ run c (f r) Q) :
    ∀ (l : List (Fin 15)) (Q : PUnit → sProp 𝕄), iprop(S l ∗ bigSepL l A ∗ (S [] ∗ bigSepL l B -∗ Q ⟨⟩)) ⊢ run c (each f l) Q
  | [], Q => by
    unfold each run
    iintro ⟨HS, -, HQ⟩
    rw [wp_pure]; imodintro
    iapply HQ
    isplitl [HS]; · iexact HS
    iempintro
  | r :: l, Q => by
    have ih := each_run c f S A B step l
    unfold each run
    rw [wp_bind, list_cons, list_cons]
    iintro ⟨HS, ⟨HA, HL⟩, HQ⟩
    iapply (step r l)
    isplitl [HS]; · iexact HS
    isplitl [HA]; · iexact HA
    iintro ⟨HS, HB⟩
    iapply (ih Q)
    isplitl [HS]; · iexact HS
    isplitl [HL]; · iexact HL
    iintro ⟨HS, HL⟩
    iapply HQ
    isplitl [HS]; · iexact HS
    isplitl [HB] <;> iassumption

/-- The same with a value handed on. -/
theorem fold_run (c : Dev nD) {α : Type} (f : Fin 15 → α → P F α) (S : List (Fin 15) → α → sProp 𝕄) (A B : Fin 15 → sProp 𝕄)
    (step : ∀ r l a (Q : α → sProp 𝕄), iprop(S (r :: l) a ∗ A r ∗ (∀ a', S l a' ∗ B r -∗ Q a')) ⊢ run c (f r a) Q) :
    ∀ (l : List (Fin 15)) (a : α) (Q : α → sProp 𝕄), iprop(S l a ∗ bigSepL l A ∗ (∀ a', S [] a' ∗ bigSepL l B -∗ Q a')) ⊢ run c (fold f l a) Q
  | [], a, Q => by
    unfold fold run
    iintro ⟨HS, -, HQ⟩
    rw [wp_pure]; imodintro
    iapply HQ
    isplitl [HS]; · iexact HS
    iempintro
  | r :: l, a, Q => by
    have ih := fold_run c f S A B step l
    unfold fold run
    rw [wp_bind, list_cons, list_cons]
    iintro ⟨HS, ⟨HA, HL⟩, HQ⟩
    iapply (step r l a)
    isplitl [HS]; · iexact HS
    isplitl [HA]; · iexact HA
    iintro %a' ⟨HS, HB⟩
    iapply (ih a' Q)
    isplitl [HS]; · iexact HS
    isplitl [HL]; · iexact HL
    iintro %a'' ⟨HS, HL⟩
    iapply HQ
    isplitl [HS]; · iexact HS
    isplitl [HB] <;> iassumption

/-- A finished program has run. -/
theorem ret_run (c : Dev nD) {α : Type} (a : α) (Q : α → sProp 𝕄) : Q a ⊢ run c (.ret a) Q := by
  unfold run; rw [wp_ret]; iintro H; imodintro; iexact H

/-! ## Slots -/

theorem slot_set (b : Memref sig .tc .vmem S16x64x512 .f32) (s : Fin 16) : (slot b s).view.set = (b.access (slotRect s)).set := View.set_reshape _ _

/-- A slot at contents that read as a chunk holds the chunk. -/
theorem full_intro (b : Memref sig .tc .vmem S16x64x512 .f32) (c : Dev nD) (s : Fin 16) (f : (slot b s).view.ty.Contents (Elt F)) (W : FVec F S64x512 .f32)
    (h : (slot b s).view.read (Elt F) f = W) : ((slot b s).view.loc (c : Thread nD τ) ↦[(slot b s).view.set]{fullShare} f : sProp 𝕄) ⊢ full b c s W := by
  rw [← h]; exact owns_intro (c : Thread nD τ) (slot b s) fullShare f

/-- A load of a slot reads the chunk it holds. -/
theorem load_slot (c : Dev nD) (b : Memref sig .tc .vmem S16x64x512 .f32) (s : Fin 16) (W : FVec F S64x512 .f32) {α : Type} (Q : α → sProp 𝕄)
    {hl : b.view.LoadsAt (slotRect s).toLoadRect} (k : Vec F S1x64x512 .f32 → P F α) :
    full b c s W ⊢ iprop((∀ v, ⌜chunk v = W⌝ -∗ full b c s W -∗ run c (k v) Q) -∗ run c (.op (.load b (slotRect s).toLoadRect hl) k) Q) := by
  unfold full owns
  iintro ⟨%f, %hf, H⟩ Hk
  iapply (wp_load 𝒱₀ (c : Thread nD τ) none Set.univ (m := b) (r := (slotRect s).toLoadRect) (S := (slot b s).view.set) (by
    rw [slot_set]; exact (View.set_slice _ _).ge)) $$ H
  iintro H
  iapply Hk $$ [] [H]
  · ipureintro; exact hf
  · iexists f; isplitr; · ipureintro; exact hf
    iexact H

/-- A store into a slot leaves it holding what was stored. -/
theorem store_slot (c : Dev nD) (b : Memref sig .tc .vmem S16x64x512 .f32) (s : Fin 16) (w : FVec F S1x64x512 .f32) {α : Type} (Q : α → sProp 𝕄)
    {hx : (b.access (slotRect s)).Stores Finset.univ} {hm : (Finset.univ : Finset (slotRect s).shape.Idx) = Finset.univ ∨ ∀ a, (slotRect s).stride a = 1}
    (k : PUnit → P F α) :
    free b c s ⊢ iprop((full b c s (chunk w) -∗ run c (k ⟨⟩) Q) -∗ run c (.op (.store b (slotRect s) w Finset.univ hx hm) k) Q) := by
  unfold free full owns
  iintro ⟨%W, %f, %hf, H⟩ Hk
  iapply (wp_store 𝒱₀ (c : Thread nD τ) none Set.univ (m := b) (r := slotRect s) (Mk := Finset.univ) (S := (slot b s).view.set) (by
    rw [slot_set]; exact (View.setOn_univ _).le)) $$ H
  iintro H
  iapply Hk
  iexists _
  isplitr
  · ipureintro
    show (fun x => (b.access (slotRect s)).read (Elt F) ((b.access (slotRect s)).write (Elt F) f w Finset.univ) (Shape.reshapeEquiv _ x)) = chunk w
    rw [View.read_write_univ]; rfl
  · iexact H

/-! ## Waits -/

variable (m : (ℓ : Loc nD τ sig) → Buf (Elt F) ℓ) (ρ : Dev nD → PrngReg)

/-- A wait for a transfer's semaphore gets what its payment hands over, and the semaphore back at zero. -/
theorem wait_xfer (K : Dev nD × Kix → ℕ) (c : Dev nD) (j : Fin 4) (r : Fin 15) (O : CellTallies nD τ sig Unit)
    {sp sp' : Space} {s s' : Shape} {e : EltTy} {sM : Memref sig .tc sp s e} {dM : Memref sig .tc sp' s' e} {h1 : sM.view.WordExact} {h2 : dM.view.WordExact}
    (hN : dM.view.dmaCredit = N) {α : Type} (Q : α → sProp 𝕄) (k : PUnit → P F α) :
    iprop(records m ρ K ∗ cred (tallyAt (kcell (c, .inr (j, r))) () N) ∗ owing c O ∗ MayWait (c : Thread nD τ) (csem (.inr (j, r))) () O
        ∗ atPos ER (kcell (c, .inr (j, r))) 0 ∅ 0)
      ⊢ iprop((owing c O ∗ semVal (kcell (c, .inr (j, r))) 0 ∗ payOf m ρ c 0 (some (.inr (j, r))) -∗ run c (k ⟨⟩) Q)
          -∗ run c (.op (.waitDma2 (semAt (semArr j) (sl r)) sM dM h1 h2) k) Q) := by
  unfold owing
  iintro ⟨#HR, Hc, ⟨%W, HO⟩, HM, Hat⟩ Hk
  ihave #HI := (inv_at m ρ K c (.inr (j, r))) $$ HR
  iapply (Rounds.wp_wait_rest_token 𝒱₀ ER (sched m ρ) (c : Thread nD τ) none (κ := K (c, .inr (j, r)))
      (wpE_waitDma2_eq 𝒱₀ (c : Thread nD τ) none Set.univ) (Set.mem_univ _) () (O := O) (W := W) (R := 0) (m := 0) (T := ∅)
      (by rw [Nat.zero_add]; exact hN.trans (expect_xfer m ρ c j r).symm)) $$ [Hc HO HM Hat]
  · isplitr; · iexact HI
    isplitl [Hc]; · rw [hN]; iexact Hc
    isplitl [HO]; · iexact HO
    isplitl [HM] <;> iassumption
  iintro ⟨HO, Hat, -, Hpay⟩
  ihave Hp := (Entails.of_eq (rest_xfer m ρ c j r)) $$ Hpay
  imod (Rounds.cell_close ER (sched m ρ) (Set.mem_univ (K (c, .inr (j, r)))) (fun h => h) (R := 0 + 1) (duties_later m ρ (kcell (c, .inr (j, r))))) $$ [Hat] with Hz
  · isplitr; · iexact HI
    iexact Hat
  iapply Hk
  isplitl [HO]; · iexists _; iexact HO
  isplitl [Hz] <;> iassumption

end Cert.KernelIdeal.Lookup

end
-- ==== Proof.Fill.lean ====
/-
  The result array filled chunk by chunk: each device writes its own chunk and then the fifteen that arrive, in its own order,
  and ends with the same array.
-/
module

public import proofs.«01_k».proof.Proof.Protocol

@[expose] public section

noncomputable section

namespace Cert.KernelIdeal.Lookup

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

/-- The result array with one chunk written at `off`. -/
def putAt (f : (cc0_stg2_0 : Ref sig .tc).ty.Contents (Elt F)) (off : Fin 2 → Nat) (hoff : ∀ a, off a + S64x512.size a ≤ S1024x512.size a)
    (v : FVec F S64x512 .f32) : (cc0_stg2_0 : Ref sig .tc).ty.Contents (Elt F) :=
  (oM.access (Rect.unit (s := S1024x512) off S64x512.size hoff)).write (Elt F) f v Finset.univ

theorem putAt_in (f : (cc0_stg2_0 : Ref sig .tc).ty.Contents (Elt F)) (off : Fin 2 → Nat) (hoff : ∀ a, off a + S64x512.size a ≤ S1024x512.size a)
    (v : FVec F S64x512 .f32) (d : Nat) (h0 : off = ![d * 64, 0]) (i : S1024x512.Idx) (hi : (i 0).val / 64 = d) : putAt f off hoff v i = v (within i) := by
  have he : (oM.access (Rect.unit (s := S1024x512) off S64x512.size hoff)).emb (within i) = i := by
    subst h0
    funext a; apply Fin.ext
    match a with
    | ⟨0, _⟩ => show d * 64 + 1 * ((i 0).val % 64) = (i 0).val; omega
    | ⟨1, _⟩ => show 0 + 1 * (i 1).val = (i 1).val; omega
  have h := (oM.access (Rect.unit (s := S1024x512) off S64x512.size hoff)).write_emb_of_mem f v (Finset.mem_univ (within i))
  rw [he] at h; exact h

theorem putAt_out (f : (cc0_stg2_0 : Ref sig .tc).ty.Contents (Elt F)) (off : Fin 2 → Nat) (hoff : ∀ a, off a + S64x512.size a ≤ S1024x512.size a)
    (v : FVec F S64x512 .f32) (d : Nat) (h0 : off = ![d * 64, 0]) (i : S1024x512.Idx) (hi : (i 0).val / 64 ≠ d) : putAt f off hoff v i = f i := by
  refine (oM.access (Rect.unit (s := S1024x512) off S64x512.size hoff)).write_of_not_mem f v Finset.univ fun hm => hi ?_
  obtain ⟨x, -, hx⟩ := Finset.mem_map.mp hm
  have h := congrArg (fun j : S1024x512.Idx => (j 0).val) hx
  subst h0
  change d * 64 + 1 * (x 0).val = (i 0).val at h
  have hx0 : (x 0).val < 64 := (x 0).isLt
  omega

theorem off3_eq : ∀ c : Dev nD, k0_off3 c = ![c.val * 64, 0] := by decide +kernel
theorem off4_eq : ∀ (c : Dev nD) (r : Fin 15), k0_off4 c (BitVec.ofNat 32 (1 + r.val)) = ![(src c r).val * 64, 0] := by decide +kernel

/-- The result array of device `c` with the chunks that arrive over a list of offsets written. -/
def collected (c : Dev nD) (l : List (Fin 15)) (f : (cc0_stg2_0 : Ref sig .tc).ty.Contents (Elt F)) : (cc0_stg2_0 : Ref sig .tc).ty.Contents (Elt F) :=
  l.foldl (fun (f : (cc0_stg2_0 : Ref sig .tc).ty.Contents (Elt F)) (r : Fin 15) => putAt f (k0_off4 c (BitVec.ofNat 32 (1 + r.val))) (k0_off4_inb c r) (red m ρ (src c r))) f

theorem outAt_chunk (d : Dev nD) (i : S1024x512.Idx) (hi : (i 0).val / 64 = d.val) : outAt m ρ i = red m ρ d (within i) := by
  unfold outAt
  have : (⟨(i 0).val / 64, by have h : (i 0).val < 1024 := (i 0).isLt; show _ < 16; omega⟩ : Dev nD) = d := Fin.ext hi
  rw [this]

/-- An element already right or in a chunk still to be written is right in the end. -/
theorem collected_apply (c : Dev nD) (i : S1024x512.Idx) : ∀ (l : List (Fin 15)) (f : (cc0_stg2_0 : Ref sig .tc).ty.Contents (Elt F)),
    (f i = outAt m ρ i ∨ ∃ r ∈ l, (i 0).val / 64 = (src c r).val) → collected m ρ c l f i = outAt m ρ i
  | [], f, h => h.elim id fun ⟨_, h, _⟩ => absurd h (List.not_mem_nil)
  | r :: l, f, h => by
    refine collected_apply c i l _ ?_
    by_cases hr : (i 0).val / 64 = (src c r).val
    · left; beta_reduce; rw [putAt_in _ _ _ _ _ (off4_eq c r) i hr, outAt_chunk m ρ _ i hr]
    · rcases h with h | ⟨r', hr', h⟩
      · left; beta_reduce; rw [putAt_out _ _ _ _ _ (off4_eq c r) i hr, h]
      · rcases List.mem_cons.mp hr' with rfl | hr'
        · exact absurd h hr
        · exact .inr ⟨r', hr', h⟩

theorem reach_all : ∀ c d : Fin 16, d = c ∨ ∃ r ∈ offs, d.val = (src (c : Dev nD) r).val := by decide +kernel

/-- With its own chunk and the fifteen others written, whatever the array held before, it is the result. -/
theorem collected_all (c : Dev nD) (f : (cc0_stg2_0 : Ref sig .tc).ty.Contents (Elt F)) :
    collected m ρ c offs (putAt f (k0_off3 c) (k0_off3_inb c) (red m ρ c)) = outAt m ρ := by
  funext i
  refine collected_apply m ρ c i offs _ ?_
  have hi : (i 0).val / 64 < 16 := by have h : (i 0).val < 1024 := (i 0).isLt; omega
  rcases reach_all c ⟨(i 0).val / 64, hi⟩ with h | h
  · left
    have h' : (i 0).val / 64 = c.val := congrArg Fin.val h
    rw [putAt_in _ _ _ _ _ (off3_eq c) i h', outAt_chunk m ρ c i h']
  · exact .inr h

end Cert.KernelIdeal.Lookup

end
-- ==== Proof.StepRules.lean ====
/-
  What each step of the kernel needs and what it leaves.
-/
module

public import proofs.«01_k».proof.Proof.Moves
public import proofs.«01_k».proof.Proof.Fill

@[expose] public section

noncomputable section

namespace Cert.KernelIdeal.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Kix → ℕ)

/-- The index array, staged on device `c`. -/
def xPts (c : Dev nD) : sProp 𝕄 := ((c : Thread nD τ).loc cc0_stg0_0) ↦{fullShare} xstg m ρ c
/-- The table in the short format, on device `c`. -/
def bPts (c : Dev nD) : sProp 𝕄 := ((c : Thread nD τ).loc cc0_scratch0) ↦{fullShare} bstg m ρ c
/-- The result array of device `c` at contents `g`. -/
def oPts (c : Dev nD) (g : (cc0_stg2_0 : Ref sig .tc).ty.Contents (Elt F)) : sProp 𝕄 := ((c : Thread nD τ).loc cc0_stg2_0) ↦{fullShare} g

theorem hz : (![0, 0] : Fin 2 → Nat) = fun _ => 0 := funext fun a => by fin_cases a <;> rfl

/-! ## The barrier -/

/-- A signal gives away the two slots that the device it goes to will write. -/
theorem signal_step (c : Dev nD) (r : Fin 15) (l : List (Fin 15)) (Q : PUnit → sProp 𝕄) :
    iprop((records m ρ K ∗ owing c (stack (O₁ c) (fun r => tallyAt (barCell (dst c r)) () 1) (r :: l)))
        ∗ (dutyTok ER (barCell (dst c r)) 0 r ∗ free p1M c (sl (Fin.rev r)) ∗ free p2M c (sl (Fin.rev r)))
        ∗ ((records m ρ K ∗ owing c (stack (O₁ c) (fun r => tallyAt (barCell (dst c r)) () 1) l)) ∗ emp -∗ Q ⟨⟩))
      ⊢ run c (signalStep c r) Q := by
  unfold signalStep run owing semSignalWord
  simp only [Prog.lift, Prog.bind_op, Prog.bind_ret, Prog.pure_eq_ret]
  iintro ⟨⟨#HR, ⟨%W, HO⟩⟩, ⟨Ht, H1, H2⟩, HQ⟩
  iapply (Rounds.wp_signal 𝒱₀ ER (sched m ρ) (c : Thread nD τ) none (dst := (dst c r : Thread nD τ)) (κ := K (dst c r, .inl ()))
      (d := r) (by rw [duties_bar]; exact Finset.mem_univ _) ((amount_at m ρ (dst c r) (.inl ()) r).trans (by decide)) ()
      (stack (O₁ c) (fun r => tallyAt (barCell (dst c r)) () 1) l) rfl) $$ [HO Ht H1 H2]
  · isplitr; · iapply (inv_at m ρ K (dst c r) (.inl ())); iexact HR
    isplitl [HO]; · iexact HO
    isplitl [Ht]; · iexact Ht
    isplitl [H1 H2]
    · have e : (sched (F := F) m ρ).payload (barCell (dst c r)) 0 r = iprop(free p1M c (sl (Fin.rev r)) ∗ free p2M c (sl (Fin.rev r))) := by
        refine (payload_at m ρ (dst c r) (.inl ()) r).trans ?_
        rw [payOf_bar, barPay, show dst (dst c r) (Fin.rev r) = c from src_dst c r]
      rw [e]
      isplitl [H1] <;> iassumption
    iapply (reached_at m ρ K (dst c r) (.inl ())); iexact HR
  iintro HO
  iapply (ret_run c _ Q)
  iapply HQ
  isplitl
  · isplitr; · iexact HR
    iexists W; iexact HO
  iempintro

/-! ## The partial results -/

/-- The partial result for one row, left in a slot. -/
theorem gather_into (c : Dev nD) (off : Fin 2 → Nat) (hoff : ∀ a, off a + S1x64.size a ≤ S16x64.size a) (s : Fin 16) (Q : PUnit → sProp 𝕄) :
    iprop((xPts m ρ c ∗ bPts m ρ c ∗ free p0M c s) ∗ (xPts m ρ c ∗ bPts m ρ c ∗ full p0M c s (partAt m ρ c off hoff) -∗ Q ⟨⟩))
      ⊢ run c (gatherInto c off hoff s) Q := by
  unfold gatherInto run
  simp only [Prog.lift, Prog.bind_op, Prog.bind_ret, Prog.pure_eq_ret]
  iintro ⟨⟨Hx, Hb, H0⟩, HQ⟩
  unfold xPts bPts
  iapply (wp_load 𝒱₀ (c : Thread nD τ) none Set.univ (m := xM) (Finset.subset_univ _)) $$ Hx; iintro Hx
  iapply (wp_load 𝒱₀ (c : Thread nD τ) none Set.univ (m := bM) (Finset.subset_univ _)) $$ Hb; iintro Hb
  rw [show bM.view.readAt (Elt F) (Rect.unit (s := S4096x512) ![0, 0] S4096x512.size inb_S4096x512_S4096x512_0_0).toLoadRect (bstg m ρ c) = bstg m ρ c from
    Memref.readAt_unit_zero (Elt F) cc0_scratch0 hz _ _]
  unfold free
  icases H0 with ⟨%W, H0⟩
  iapply (load_slot c p0M s W Q) $$ H0
  iintro %v %hv H0
  iapply (store_slot c p0M s _ Q) $$ [H0]
  · unfold free; iexists W; iexact H0
  iintro H0
  iapply (ret_run c _ Q)
  iapply HQ
  isplitl [Hx]; · iexact Hx
  isplitl [Hb]; · iexact Hb
  iexact H0

/-- The first transfer over an offset. -/
theorem send_first (c : Dev nD) (r : Fin 15) (O : CellTallies nD τ sig Unit)
    {hsc : (slot p1M (sl r)).view.ref.isScScratch = false} {hsrc : (slot p0M (sl r)).view.WordExact} {hdst : (slot p1M (sl r)).view.WordExact}
    {hsem : DmaTarget.Typed .vmem (.dma (semAt cc0_scratch6 (sl r))) (.remote (Dev.tc (dst c r) : Thread nD τ) (slot p1M (sl r)) (.dma (semAt cc0_scratch5 (sl r))) hsc)}
    {α : Type} (Q : α → sProp 𝕄) (k : PUnit → P F α) :
    iprop(records m ρ K ∗ full p0M c (sl r) (partTo m ρ c r) ∗ free p1M (dst c r) (sl r) ∗ owing c (O + tallyAt (v1Cell (dst c r) r) () N)
        ∗ dutyTok ER (s1Cell c r) 0 0 ∗ dutyTok ER (v1Cell (dst c r) r) 0 0)
      ⊢ iprop((cred (tallyAt (s1Cell c r) () N) ∗ owing c O -∗ run c (k ⟨⟩) Q)
          -∗ run c (.op (.enqueueDma (slot p0M (sl r)) (.remote (Dev.tc (dst c r) : Thread nD τ) (slot p1M (sl r)) (.dma (semAt cc0_scratch5 (sl r))) hsc)
              (.dma (semAt cc0_scratch6 (sl r))) hsrc hdst hsem) k) Q) := by
  unfold full free owing
  iintro ⟨#HR, H0, ⟨%W1, H1⟩, ⟨%W, HO⟩, Hs, Hv⟩ Hk
  unfold full owns
  icases H0 with ⟨%f0, %hf0, H0⟩
  icases H1 with ⟨%f1, %hf1, H1⟩
  iapply (Rounds.wp_send_pointsTo 𝒱₀ ER (sched m ρ) (c : Thread nD τ) none (κ₁ := K (c, .inr (0, r))) (κ₂ := K (dst c r, .inr (1, r)))
    (r₁ := 0) (r₂ := 0) (d₁ := 0) (d₂ := 0) (fd := f1)
    ((duties_xfer m ρ c 0 r).symm ▸ Finset.mem_singleton_self _) ((duties_xfer m ρ (dst c r) 1 r).symm ▸ Finset.mem_singleton_self _)
    () () N (by exact credit_p1 (sl r)) (amount_at m ρ c (.inr (0, r)) 0) (amount_at m ρ (dst c r) (.inr (1, r)) 0) O rfl (W := W)
    (by
      refine BIBase.Entails.trans ?_ (Entails.of_eq (payload_at m ρ c (.inr (0, r)) 0).symm)
      rw [payOf_s1]
      unfold free full
      iintro H; iexists _; iapply (owns_intro (c : Thread nD τ) (slot p0M (sl r)) fullShare f0); iexact H)
    (by
      refine BIBase.Entails.trans ?_ (Entails.of_eq (payload_at m ρ (dst c r) (.inr (1, r)) 0).symm)
      rw [payOf_v1, show src (dst c r) r = c from src_dst c r]
      exact full_intro p1M (dst c r) (sl r) _ _ ((View.read_write_univ _ _).trans hf0))) $$ [H0 H1 HO Hs Hv]
  · isplitr; · iapply (inv_at m ρ K c (.inr (0, r))); iexact HR
    isplitr; · iapply (inv_at m ρ K (dst c r) (.inr (1, r))); iexact HR
    isplitl [H0]; · iexact H0
    isplitl [H1]; · iexact H1
    isplitl [HO]; · iexact HO
    isplitl [Hs]; · iexact Hs
    isplitr; · iapply (reached_at m ρ K c (.inr (0, r))); iexact HR
    isplitl [Hv]; · iexact Hv
    iapply (reached_at m ρ K (dst c r) (.inr (1, r))); iexact HR
  iintro ⟨Hc, HO⟩
  iapply Hk
  isplitl [Hc]; · iexact Hc
  iexists W; iexact HO

/-- A partial result made and sent. -/
theorem gather_step (c : Dev nD) (r : Fin 15) (l : List (Fin 15)) (Q : PUnit → sProp 𝕄) :
    iprop((records m ρ K ∗ xPts m ρ c ∗ bPts m ρ c ∗ owing c (stack (O₂ c) (fun r => tallyAt (v1Cell (dst c r) r) () N) (r :: l)))
        ∗ (free p0M c (sl r) ∗ free p1M (dst c r) (sl r) ∗ dutyTok ER (s1Cell c r) 0 0 ∗ dutyTok ER (v1Cell (dst c r) r) 0 0)
        ∗ ((records m ρ K ∗ xPts m ρ c ∗ bPts m ρ c ∗ owing c (stack (O₂ c) (fun r => tallyAt (v1Cell (dst c r) r) () N) l)) ∗ cred (tallyAt (s1Cell c r) () N) -∗ Q ⟨⟩))
      ⊢ run c (gatherStep c r) Q := by
  unfold gatherStep run
  rw [wp_bind]
  simp only [Prog.lift]
  iintro ⟨⟨#HR, Hx, Hb, HO⟩, ⟨H0, H1, Hs, Hv⟩, HQ⟩
  iapply (gather_into m ρ c _ (k0_off1_inb c r) (sl r))
  isplitl [Hx Hb H0]
  · isplitl [Hx]; · iexact Hx
    isplitl [Hb] <;> iassumption
  iintro ⟨Hx, Hb, H0⟩
  iapply (send_first m ρ K c r (stack (O₂ c) (fun r => tallyAt (v1Cell (dst c r) r) () N) l) Q) $$ [H0 H1 HO Hs Hv]
  · isplitr; · iexact HR
    isplitl [H0]; · iexact H0
    isplitl [H1]; · iexact H1
    isplitl [HO]; · iexact HO
    isplitl [Hs] <;> iassumption
  iintro ⟨Hc, HO⟩
  iapply (ret_run c _ Q)
  iapply HQ
  isplitl [Hx Hb HO]
  · isplitr; · iexact HR
    isplitl [Hx]; · iexact Hx
    isplitl [Hb] <;> iassumption
  iexact Hc

/-- An arrived partial result waited for and added. -/
theorem accum_step (c : Dev nD) (tot : FVec F S64x512 .f32) (r : Fin 15) (l : List (Fin 15)) (a : FVec F S64x512 .f32) (Q : FVec F S64x512 .f32 → sProp 𝕄) :
    iprop((records m ρ K ∗ levAts L lv ∗ owing c (O₂ c) ∗ ⌜(r :: l).foldl (addIn m ρ c) a = tot⌝)
        ∗ (cred (tallyAt (v1Cell c r) () N) ∗ atPos ER (v1Cell c r) 0 ∅ 0)
        ∗ (∀ a', (records m ρ K ∗ levAts L lv ∗ owing c (O₂ c) ∗ ⌜l.foldl (addIn m ρ c) a' = tot⌝) ∗ (free p1M c (sl r) ∗ semVal (v1Cell c r) 0) -∗ Q a'))
      ⊢ run c (accumStep r a) Q := by
  unfold accumStep run
  simp only [Prog.lift, Prog.bind_op, Prog.bind_ret, Prog.pure_eq_ret]
  iintro ⟨⟨#HR, #HL, HO, %htot⟩, ⟨Hc, Hat⟩, HQ⟩
  iapply (wait_xfer m ρ K c 1 r (O₂ c) (credit_p1 (sl r)) Q) $$ [Hc HO Hat]
  · isplitr; · iexact HR
    isplitl [Hc]; · iexact Hc
    isplitl [HO]; · iexact HO
    isplitr; · iapply (mayWait_v1 (F := F) c r); iexact HL
    iexact Hat
  iintro ⟨HO, Hz, Hp⟩
  ihave H1 := (Entails.of_eq (payOf_v1 m ρ c 0 r)) $$ Hp
  iapply (load_slot c p1M (sl r) (partTo m ρ (src c r) r) Q) $$ [H1]
  · iexact H1
  iintro %v %hv H1
  iapply (ret_run c _ Q)
  iapply HQ
  isplitl [HO]
  · isplitr; · iexact HR
    isplitr; · iexact HL
    isplitl [HO]; · iexact HO
    ipureintro
    rw [← htot, List.foldl_cons]
    unfold addIn accum
    rw [show shapeCast S64x512 v shapeCasts_S1x64x512_S64x512 = partTo m ρ (src c r) r from hv]
  isplitl [H1]; · unfold free; iexists _; iexact H1
  iexact Hz

/-! ## The finished chunks -/

/-- The second transfer over an offset. -/
theorem spread_step (c : Dev nD) (r : Fin 15) (l : List (Fin 15)) (Q : PUnit → sProp 𝕄) :
    iprop((records m ρ K ∗ owing c (stack 0 (fun r => tallyAt (v2Cell (dst c r) r) () N) (r :: l)))
        ∗ (redPts c (sixteenth (sl r)) (red m ρ c) ∗ free p2M (dst c r) (sl r) ∗ dutyTok ER (s2Cell c r) 0 0 ∗ dutyTok ER (v2Cell (dst c r) r) 0 0)
        ∗ ((records m ρ K ∗ owing c (stack 0 (fun r => tallyAt (v2Cell (dst c r) r) () N) l)) ∗ cred (tallyAt (s2Cell c r) () N) -∗ Q ⟨⟩))
      ⊢ run c (spreadStep c r) Q := by
  unfold spreadStep run owing
  simp only [Prog.lift]
  iintro ⟨⟨#HR, ⟨%W, HO⟩⟩, ⟨H0, H1, Hs, Hv⟩, HQ⟩
  unfold free full owns
  icases H1 with ⟨%W1, %f1, %hf1, H1⟩
  iapply (Rounds.wp_send_pointsTo 𝒱₀ ER (sched m ρ) (c : Thread nD τ) none (κ₁ := K (c, .inr (2, r))) (κ₂ := K (dst c r, .inr (3, r)))
    (q := sixteenth (sl r)) (fs := red m ρ c)
    (r₁ := 0) (r₂ := 0) (d₁ := 0) (d₂ := 0) (fd := f1)
    ((duties_xfer m ρ c 2 r).symm ▸ Finset.mem_singleton_self _) ((duties_xfer m ρ (dst c r) 3 r).symm ▸ Finset.mem_singleton_self _)
    () () N (by exact credit_p2 (sl r)) (amount_at m ρ c (.inr (2, r)) 0) (amount_at m ρ (dst c r) (.inr (3, r)) 0)
    (stack 0 (fun r => tallyAt (v2Cell (dst c r) r) () N) l) rfl (W := W)
    (by
      refine BIBase.Entails.trans ?_ (Entails.of_eq (payload_at m ρ c (.inr (2, r)) 0).symm)
      rw [payOf_s2]; exact BI.Entails.refl _)
    (by
      refine BIBase.Entails.trans ?_ (Entails.of_eq (payload_at m ρ (dst c r) (.inr (3, r)) 0).symm)
      rw [payOf_v2, show src (dst c r) r = c from src_dst c r]
      exact full_intro p2M (dst c r) (sl r) _ _ (View.read_write_univ _ _))) $$ [H0 H1 HO Hs Hv]
  · isplitr; · iapply (inv_at m ρ K c (.inr (2, r))); iexact HR
    isplitr; · iapply (inv_at m ρ K (dst c r) (.inr (3, r))); iexact HR
    isplitl [H0]; · unfold redPts; iexact H0
    isplitl [H1]; · iexact H1
    isplitl [HO]; · iexact HO
    isplitl [Hs]; · iexact Hs
    isplitr; · iapply (reached_at m ρ K c (.inr (2, r))); iexact HR
    isplitl [Hv]; · iexact Hv
    iapply (reached_at m ρ K (dst c r) (.inr (3, r))); iexact HR
  iintro ⟨Hc, HO⟩
  iapply (ret_run c _ Q)
  iapply HQ
  isplitl [HO]
  · isplitr; · iexact HR
    iexists W; iexact HO
  iexact Hc

/-- A wait for the first transfer over an offset to have left. -/
theorem left_step (c : Dev nD) (r : Fin 15) (l : List (Fin 15)) (Q : PUnit → sProp 𝕄) :
    iprop((records m ρ K ∗ owing c 0) ∗ (cred (tallyAt (s1Cell c r) () N) ∗ atPos ER (s1Cell c r) 0 ∅ 0)
        ∗ ((records m ρ K ∗ owing c 0) ∗ (free p0M c (sl r) ∗ semVal (s1Cell c r) 0) -∗ Q ⟨⟩))
      ⊢ run c (leftStep r) Q := by
  unfold leftStep run
  simp only [Prog.lift]
  iintro ⟨⟨#HR, HO⟩, ⟨Hc, Hat⟩, HQ⟩
  iapply (wait_xfer m ρ K c 0 r 0 (credit_p0 (sl r)) Q) $$ [Hc HO Hat]
  · isplitr; · iexact HR
    isplitl [Hc]; · iexact Hc
    isplitl [HO]; · iexact HO
    isplitr; · rw [MayWait_zero]; iempintro
    iexact Hat
  iintro ⟨HO, Hz, Hp⟩
  ihave H1 := (Entails.of_eq (payOf_s1 m ρ c 0 r)) $$ Hp
  iapply (ret_run c _ Q)
  iapply HQ
  isplitl [HO]
  · isplitr; · iexact HR
    iexact HO
  isplitl [H1]; · iexact H1
  iexact Hz

/-- A wait for the second transfer over an offset to have left. -/
theorem spreadLeft_step (c : Dev nD) (r : Fin 15) (l : List (Fin 15)) (Q : PUnit → sProp 𝕄) :
    iprop((records m ρ K ∗ owing c 0) ∗ (cred (tallyAt (s2Cell c r) () N) ∗ atPos ER (s2Cell c r) 0 ∅ 0)
        ∗ ((records m ρ K ∗ owing c 0) ∗ (redPts c (sixteenth (sl r)) (red m ρ c) ∗ semVal (s2Cell c r) 0) -∗ Q ⟨⟩))
      ⊢ run c (spreadLeftStep r) Q := by
  unfold spreadLeftStep run
  simp only [Prog.lift]
  iintro ⟨⟨#HR, HO⟩, ⟨Hc, Hat⟩, HQ⟩
  iapply (wait_xfer m ρ K c 2 r 0 rfl Q) $$ [Hc HO Hat]
  · isplitr; · iexact HR
    isplitl [Hc]; · iexact Hc
    isplitl [HO]; · iexact HO
    isplitr; · rw [MayWait_zero]; iempintro
    iexact Hat
  iintro ⟨HO, Hz, Hp⟩
  ihave H1 := (Entails.of_eq (payOf_s2 m ρ c 0 r)) $$ Hp
  iapply (ret_run c _ Q)
  iapply HQ
  isplitl [HO]
  · isplitr; · iexact HR
    iexact HO
  isplitl [H1]; · iexact H1
  iexact Hz

/-- An arrived chunk waited for and written into the result. -/
theorem collect_step (c : Dev nD) (r : Fin 15) (l : List (Fin 15)) (Q : PUnit → sProp 𝕄) :
    iprop((records m ρ K ∗ owing c 0 ∗ ∃ g, ⌜collected m ρ c (r :: l) g = outAt m ρ⌝ ∗ oPts c g)
        ∗ (cred (tallyAt (v2Cell c r) () N) ∗ atPos ER (v2Cell c r) 0 ∅ 0)
        ∗ ((records m ρ K ∗ owing c 0 ∗ ∃ g, ⌜collected m ρ c l g = outAt m ρ⌝ ∗ oPts c g) ∗ (free p2M c (sl r) ∗ semVal (v2Cell c r) 0) -∗ Q ⟨⟩))
      ⊢ run c (collectStep c r) Q := by
  unfold collectStep run
  simp only [Prog.lift, Prog.bind_op, Prog.bind_ret, Prog.pure_eq_ret]
  iintro ⟨⟨#HR, HO, ⟨%g, %hg, Hg⟩⟩, ⟨Hc, Hat⟩, HQ⟩
  iapply (wait_xfer m ρ K c 3 r 0 (credit_p2 (sl r)) Q) $$ [Hc HO Hat]
  · isplitr; · iexact HR
    isplitl [Hc]; · iexact Hc
    isplitl [HO]; · iexact HO
    isplitr; · rw [MayWait_zero]; iempintro
    iexact Hat
  iintro ⟨HO, Hz, Hp⟩
  ihave H1 := (Entails.of_eq (payOf_v2 m ρ c 0 r)) $$ Hp
  iapply (load_slot c p2M (sl r) (red m ρ (src c r)) Q) $$ [H1]
  · iexact H1
  iintro %v %hv H1
  unfold oPts run
  iapply (wp_load 𝒱₀ (c : Thread nD τ) none Set.univ (m := oM) (Finset.subset_univ _)) $$ Hg; iintro Hg
  iapply (wp_store 𝒱₀ (c : Thread nD τ) none Set.univ (m := oM) (r := Rect.unit (s := S1024x512) (k0_off4 c (BitVec.ofNat 32 (1 + r.val))) S64x512.size (k0_off4_inb c r)) (Mk := Finset.univ) (Finset.subset_univ _)) $$ Hg; iintro Hg
  iapply (ret_run c _ Q)
  iapply HQ
  isplitl [HO Hg]
  · isplitr; · iexact HR
    isplitl [HO]; · iexact HO
    iexists _
    isplitr [Hg]
    swap
    · iexact Hg
    ipureintro
    rw [hv]; exact hg
  isplitl [H1]; · unfold free; iexists _; iexact H1
  iexact Hz

end Cert.KernelIdeal.Lookup

end
-- ==== Proof.Phases.lean ====
/-
  The kernel's three phases, run: the loops of the steps, and the straight pieces between them. What a device holds of its
  buffers is always one of: all sixteen slots at its own disposal, a slot lent to another device, or a slot it was lent.
-/
module

public import proofs.«01_k».proof.Proof.StepRules

@[expose] public section

noncomputable section

namespace Cert.KernelIdeal.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Kix → ℕ)

/-- One resource for every offset. -/
abbrev all (Φ : Fin 15 → sProp 𝕄) : sProp 𝕄 := bigSep Finset.univ Φ

theorem all_sep (Φ Ψ : Fin 15 → sProp 𝕄) : all (fun r => iprop(Φ r ∗ Ψ r)) = iprop(all Φ ∗ all Ψ) := bigSep_sep' _ _ _

/-- A loop over every offset. -/
theorem each_all (c : Dev nD) (f : Fin 15 → P F PUnit) (S : List (Fin 15) → sProp 𝕄) (A B : Fin 15 → sProp 𝕄)
    (step : ∀ r l (Q : PUnit → sProp 𝕄), iprop(S (r :: l) ∗ A r ∗ (S l ∗ B r -∗ Q ⟨⟩)) ⊢ run c (f r) Q)
    (Q : PUnit → sProp 𝕄) : iprop(S offs ∗ all A ∗ (S [] ∗ all B -∗ Q ⟨⟩)) ⊢ run c (each f offs) Q := by
  unfold all; rw [list_all, list_all]; exact each_run c f S A B step offs Q

/-- A loop over every offset with a value handed on. -/
theorem fold_all (c : Dev nD) {α : Type} (f : Fin 15 → α → P F α) (S : List (Fin 15) → α → sProp 𝕄) (A B : Fin 15 → sProp 𝕄)
    (step : ∀ r l a (Q : α → sProp 𝕄), iprop(S (r :: l) a ∗ A r ∗ (∀ a', S l a' ∗ B r -∗ Q a')) ⊢ run c (f r a) Q)
    (a : α) (Q : α → sProp 𝕄) : iprop(S offs a ∗ all A ∗ (∀ a', S [] a' ∗ all B -∗ Q a')) ⊢ run c (fold f offs a) Q := by
  unfold all; rw [list_all, list_all]; exact fold_run c f S A B step offs a Q

/-- Device `c`'s staged block of the table. -/
def tPts (c : Dev nD) : sProp 𝕄 := ((c : Thread nD τ).loc cc0_stg1_0) ↦{fullShare} tstg m ρ c

/-! ## The last phase -/

/-- What the last phase starts from, besides the records. -/
def tailPre (c : Dev nD) : sProp 𝕄 :=
  iprop(owing c 0 ∗ (∃ g, ⌜collected m ρ c offs g = outAt m ρ⌝ ∗ oPts c g)
    ∗ (all fun r => cred (tallyAt (s1Cell c r) () N)) ∗ (all fun r => atPos ER (s1Cell c r) 0 ∅ 0)
    ∗ (all fun r => cred (tallyAt (v2Cell c r) () N)) ∗ (all fun r => atPos ER (v2Cell c r) 0 ∅ 0)
    ∗ (all fun r => cred (tallyAt (s2Cell c r) () N)) ∗ (all fun r => atPos ER (s2Cell c r) 0 ∅ 0))
/-- What it ends with: the result written, the slots back, the semaphores at zero. -/
def tailPost (c : Dev nD) : sProp 𝕄 :=
  iprop(owing c 0 ∗ oPts c (outAt m ρ)
    ∗ (all fun r => free p0M c (sl r)) ∗ (all fun r => semVal (s1Cell c r) 0)
    ∗ (all fun r => free p2M c (sl r)) ∗ (all fun r => semVal (v2Cell c r) 0)
    ∗ (all fun r => redPts c (sixteenth (sl r)) (red m ρ c)) ∗ (all fun r => semVal (s2Cell c r) 0))

theorem tail_run (c : Dev nD) (Q : PUnit → sProp 𝕄) :
    iprop(records m ρ K ∗ tailPre m ρ c ∗ (tailPost m ρ c -∗ Q ⟨⟩)) ⊢ run c (tailProg c) Q := by
  unfold tailProg tailPre tailPost run
  rw [wp_bind]
  iintro ⟨#HR, ⟨HO, Hg, Hc1, Ha1, Hc2, Ha2, Hc3, Ha3⟩, HQ⟩
  iapply (each_all c leftStep (fun _ => iprop(records m ρ K ∗ owing c 0)) _ _ (fun r l Q => left_step m ρ K c r l Q))
  simp only [all_sep]
  isplitl [HO]
  · isplitr; · iexact HR
    iexact HO
  isplitl [Hc1 Ha1]
  · isplitl [Hc1] <;> iassumption
  iintro ⟨⟨-, HO⟩, Hf1, Hz1⟩
  rw [wp_bind]
  iapply (each_all c (collectStep c) (fun l => iprop(records m ρ K ∗ owing c 0 ∗ ∃ g, ⌜collected m ρ c l g = outAt m ρ⌝ ∗ oPts c g)) _ _
    (fun r l Q => collect_step m ρ K c r l Q))
  simp only [all_sep]
  isplitl [HO Hg]
  · isplitr; · iexact HR
    isplitl [HO] <;> iassumption
  isplitl [Hc2 Ha2]
  · isplitl [Hc2] <;> iassumption
  iintro ⟨⟨-, HO, ⟨%g, %hg, Hg⟩⟩, Hf2, Hz2⟩
  have hg' : g = outAt m ρ := hg
  subst hg'
  iapply (each_all c spreadLeftStep (fun _ => iprop(records m ρ K ∗ owing c 0)) _ _ (fun r l Q => spreadLeft_step m ρ K c r l Q))
  simp only [all_sep]
  isplitl [HO]
  · isplitr; · iexact HR
    iexact HO
  isplitl [Hc3 Ha3]
  · isplitl [Hc3] <;> iassumption
  iintro ⟨⟨-, HO⟩, Hf3, Hz3⟩
  iapply HQ
  isplitl [HO]; · iexact HO
  isplitl [Hg]; · iexact Hg
  isplitl [Hf1]; · iexact Hf1
  isplitl [Hz1]; · iexact Hz1
  isplitl [Hf2]; · iexact Hf2
  isplitl [Hz2]; · iexact Hz2
  isplitl [Hf3] <;> iassumption

/-! ## The middle phase -/

/-- Sixteen of something: the one of slot 0 and those of the fifteen offsets. -/
theorem slots_split (Φ : Fin 16 → sProp 𝕄) : bigSep Finset.univ Φ = iprop(Φ 0 ∗ all fun r => Φ (sl r)) := by
  rw [bigSep_univ_eq_bigSepL [0, 1, 2, 3, 4, 5, 6, 7, 8, 9, 10, 11, 12, 13, 14, 15] (by decide) (by decide)]
  unfold all; rw [list_all]; rfl

/-- A whole buffer in sixteen shares. -/
theorem red_leaves (c : Dev nD) (f : (cc0_scratch3 : Ref sig .tc).ty.Contents (Elt F)) :
    (redPts c fullShare f : sProp 𝕄) = bigSep Finset.univ fun i : Fin 16 => redPts c (sixteenth i) f :=
  ShareLeaves.pointsTo_leaves (ℓ := rM.view.loc (c : Thread nD τ)) rM.view.set f 4 fullShare

/-- The finished chunk in sixteen shares: one kept, one for each offset. -/
theorem red_shares (c : Dev nD) (f : (cc0_scratch3 : Ref sig .tc).ty.Contents (Elt F)) :
    (((c : Thread nD τ).loc cc0_scratch3) ↦{fullShare} f : sProp 𝕄) = iprop(redPts c (sixteenth 0) f ∗ all fun r => redPts c (sixteenth (sl r)) f) := by
  have h0 : (((c : Thread nD τ).loc cc0_scratch3) ↦{fullShare} f : sProp 𝕄) = redPts c fullShare f := by
    unfold redPts; rw [show rM.view.set = Finset.univ from View.set_whole _]
  rw [h0, red_leaves, slots_split]

/-- What the middle phase starts from, besides the records and the levels. -/
def midPre (c : Dev nD) : sProp 𝕄 :=
  iprop(owing c (O₂ c) ∗ full p0M c 0 (partOwn m ρ c) ∗ (∃ f : (cc0_scratch3 : Ref sig .tc).ty.Contents (Elt F), ((c : Thread nD τ).loc cc0_scratch3) ↦{fullShare} f) ∗ (∃ g, oPts c g)
    ∗ (all fun r => cred (tallyAt (v1Cell c r) () N)) ∗ (all fun r => atPos ER (v1Cell c r) 0 ∅ 0)
    ∗ (all fun r => free p2M (dst c r) (sl r)) ∗ (all fun r => dutyTok ER (s2Cell c r) 0 0) ∗ (all fun r => dutyTok ER (v2Cell (dst c r) r) 0 0)
    ∗ (all fun r => cred (tallyAt (s1Cell c r) () N)) ∗ (all fun r => atPos ER (s1Cell c r) 0 ∅ 0)
    ∗ (all fun r => cred (tallyAt (v2Cell c r) () N)) ∗ (all fun r => atPos ER (v2Cell c r) 0 ∅ 0)
    ∗ (all fun r => atPos ER (s2Cell c r) 0 ∅ 0))
/-- What the middle and the last phase end with. -/
def midPost (c : Dev nD) : sProp 𝕄 :=
  iprop(owing c 0 ∗ oPts c (outAt m ρ) ∗ (∃ f : (cc0_scratch3 : Ref sig .tc).ty.Contents (Elt F), ((c : Thread nD τ).loc cc0_scratch3) ↦{fullShare} f)
    ∗ free p0M c 0 ∗ (all fun r => free p0M c (sl r)) ∗ (all fun r => free p1M c (sl r)) ∗ (all fun r => free p2M c (sl r))
    ∗ (all fun r => semVal (s1Cell c r) 0) ∗ (all fun r => semVal (v1Cell c r) 0)
    ∗ (all fun r => semVal (s2Cell c r) 0) ∗ (all fun r => semVal (v2Cell c r) 0))

theorem mid_run (c : Dev nD) (Q : PUnit → sProp 𝕄) :
    iprop(records m ρ K ∗ levAts L lv ∗ midPre m ρ c ∗ (midPost m ρ c -∗ Q ⟨⟩)) ⊢ run c (midProg c) Q := by
  unfold midProg midPre midPost run
  simp only [Prog.lift, Prog.bind_op, Prog.bind_ret]
  iintro ⟨#HR, #HL, ⟨HO, H0, ⟨%f, Hf⟩, ⟨%g, Hg⟩, Hc1, Ha1, Hd, Ht, Hu, Hc0, Ha0, Hc2, Ha2, Ha3⟩, HQ⟩
  iapply (load_slot c p0M 0 (partOwn m ρ c) Q) $$ H0
  iintro %v0 %hv0 H0
  unfold run
  rw [wp_bind, hv0]
  iapply (fold_all c accumStep (fun l a => iprop(records m ρ K ∗ levAts L lv ∗ owing c (O₂ c) ∗ ⌜l.foldl (addIn m ρ c) a = offs.foldl (addIn m ρ c) (partOwn m ρ c)⌝)) _ _
    (fun r l a Q => accum_step m ρ K c _ r l a Q))
  simp only [all_sep]
  isplitl [HO]
  · isplitr; · iexact HR
    isplitr; · iexact HL
    isplitl [HO]; · iexact HO
    ipureintro; trivial
  isplitl [Hc1 Ha1]
  · isplitl [Hc1] <;> iassumption
  iintro %a ⟨⟨-, -, HO, %ha⟩, Hf1, Hz1⟩
  have ha' : a = offs.foldl (addIn m ρ c) (partOwn m ρ c) := ha
  subst ha'
  iapply (wp_load 𝒱₀ (c : Thread nD τ) none Set.univ (m := rM) (Finset.subset_univ _)) $$ Hf; iintro Hf
  iapply (wp_store 𝒱₀ (c : Thread nD τ) none Set.univ (m := rM) (r := Rect.unit (s := S64x512) ![0, 0] S64x512.size inb_S64x512_S64x512_0_0) (Mk := Finset.univ) (Finset.subset_univ _)) $$ Hf; iintro Hf
  rw [show ((rM : Memref sig .tc .vmem S64x512 .f32).access (Rect.unit (s := S64x512) ![0, 0] S64x512.size inb_S64x512_S64x512_0_0) : View sig .tc _ _ _).write (Elt F) f
      (fin (offs.foldl (addIn m ρ c) (partOwn m ρ c))) Finset.univ = red m ρ c from Memref.write_access_unit_zero_univ (Elt F) cc0_scratch3 hz _ f _]
  ihave Hf := (Entails.of_eq (red_shares c (red m ρ c))) $$ Hf
  icases Hf with ⟨Hr, Hrs⟩
  rw [wp_bind]
  iapply (each_all c (spreadStep c) (fun l => iprop(records m ρ K ∗ owing c (stack 0 (fun r => tallyAt (v2Cell (dst c r) r) () N) l))) _ _ (fun r l Q => spread_step m ρ K c r l Q))
  simp only [all_sep]
  isplitl [HO]
  · isplitr; · iexact HR
    unfold O₂; iexact HO
  isplitl [Hrs Hd Ht Hu]
  · isplitl [Hrs]; · iexact Hrs
    isplitl [Hd]; · iexact Hd
    isplitl [Ht] <;> iassumption
  iintro ⟨⟨-, HO⟩, Hc3⟩
  unfold redPts
  iapply (wp_load 𝒱₀ (c : Thread nD τ) none Set.univ (m := rM) (by rw [show rM.view.set = Finset.univ from View.set_whole _]; exact Finset.subset_univ _)) $$ Hr; iintro Hr
  rw [show rM.view.readAt (Elt F) (Rect.unit (s := S64x512) ![0, 0] S64x512.size inb_S64x512_S64x512_0_0).toLoadRect (red m ρ c) = red m ρ c from
    Memref.readAt_unit_zero (Elt F) cc0_scratch3 hz _ _]
  unfold oPts
  iapply (wp_load 𝒱₀ (c : Thread nD τ) none Set.univ (m := oM) (Finset.subset_univ _)) $$ Hg; iintro Hg
  iapply (wp_store 𝒱₀ (c : Thread nD τ) none Set.univ (m := oM) (r := Rect.unit (s := S1024x512) (k0_off3 c) S64x512.size (k0_off3_inb c)) (Mk := Finset.univ) (Finset.subset_univ _)) $$ Hg; iintro Hg
  iapply (tail_run m ρ K c Q)
  unfold tailPre tailPost oPts
  isplitr; · iexact HR
  isplitl [HO Hg Hc0 Ha0 Hc2 Ha2 Hc3 Ha3]
  · isplitl [HO]; · iexact HO
    isplitl [Hg]
    · iexists _
      isplitr [Hg]
      swap
      · iexact Hg
      ipureintro
      exact collected_all m ρ c g
    isplitl [Hc0]; · iexact Hc0
    isplitl [Ha0]; · iexact Ha0
    isplitl [Hc2]; · iexact Hc2
    isplitl [Ha2]; · iexact Ha2
    isplitl [Hc3] <;> iassumption
  iintro ⟨HO, Hg, Hf0, Hz0, Hf2, Hz2, Hrs, Hz3⟩
  iapply HQ
  isplitl [HO]; · iexact HO
  isplitl [Hg]; · iexact Hg
  isplitl [Hr Hrs]
  · iexists red m ρ c
    iapply (Entails.of_eq (red_shares c (red m ρ c)).symm)
    unfold redPts
    isplitl [Hr] <;> iassumption
  isplitl [H0]; · unfold free; iexists _; iexact H0
  isplitl [Hf0]; · iexact Hf0
  isplitl [Hf1]; · iexact Hf1
  isplitl [Hf2]; · iexact Hf2
  isplitl [Hz0]; · iexact Hz0
  isplitl [Hz1]; · iexact Hz1
  isplitl [Hz3] <;> iassumption

/-! ## The first phase -/

/-- What the first phase starts from, besides the records and the levels. -/
def headPre (c : Dev nD) : sProp 𝕄 :=
  iprop(owing c (O₀ c) ∗ xPts m ρ c ∗ tPts m ρ c ∗ (∃ f : (cc0_scratch0 : Ref sig .tc).ty.Contents (Elt F), ((c : Thread nD τ).loc cc0_scratch0) ↦{fullShare} f)
    ∗ free p0M c 0 ∗ (all fun r => free p0M c (sl r)) ∗ (all fun r => free p1M c (sl r)) ∗ (all fun r => free p2M c (sl r))
    ∗ cred (tallyAt (barCell c) () 15) ∗ atPos ER (barCell c) 0 ∅ 0
    ∗ (all fun r => dutyTok ER (barCell (dst c r)) 0 r) ∗ (all fun r => dutyTok ER (s1Cell c r) 0 0) ∗ (all fun r => dutyTok ER (v1Cell (dst c r) r) 0 0))
/-- What it hands to the middle phase. -/
def headPost (c : Dev nD) : sProp 𝕄 :=
  iprop(owing c (O₂ c) ∗ xPts m ρ c ∗ tPts m ρ c ∗ (∃ f : (cc0_scratch0 : Ref sig .tc).ty.Contents (Elt F), ((c : Thread nD τ).loc cc0_scratch0) ↦{fullShare} f)
    ∗ full p0M c 0 (partOwn m ρ c) ∗ semVal (barCell c) 0
    ∗ (all fun r => free p2M (dst c r) (sl r)) ∗ (all fun r => cred (tallyAt (s1Cell c r) () N)))

theorem head_run (c : Dev nD) (Q : PUnit → sProp 𝕄) :
    iprop(records m ρ K ∗ levAts L lv ∗ headPre m ρ c ∗ (headPost m ρ c -∗ run c (midProg c) Q)) ⊢ run c (headProg c) Q := by
  unfold headProg headPre headPost run
  rw [wp_bind]
  iintro ⟨#HR, #HL, ⟨HO, Hx, Ht, ⟨%f, Hb⟩, H0, Hf0, Hf1, Hf2, Hcb, Hab, Htb, Ht1, Ht2⟩, HQ⟩
  iapply (each_all c (signalStep c) (fun l => iprop(records m ρ K ∗ owing c (stack (O₁ c) (fun r => tallyAt (barCell (dst c r)) () 1) l))) _ _ (fun r l Q => signal_step m ρ K c r l Q))
  simp only [all_sep]
  isplitl [HO]
  · isplitr; · iexact HR
    unfold O₀; iexact HO
  isplitl [Htb Hf1 Hf2]
  · isplitl [Htb]; · iexact Htb
    isplitl [Hf1]
    · iapply (Entails.of_eq (bigSep_univ_equiv flip (fun r => free (F := F) p1M c (sl r)))); iexact Hf1
    iapply (Entails.of_eq (bigSep_univ_equiv flip (fun r => free (F := F) p2M c (sl r)))); iexact Hf2
  iintro ⟨⟨-, HO⟩, -⟩
  simp only [semWaitWord, Prog.lift, Prog.bind_op, Prog.bind_ret]
  unfold owing
  icases HO with ⟨%W, HO⟩
  ihave #HI := (inv_at m ρ K c (.inl ())) $$ HR
  iapply (Rounds.wp_wait_rest_token 𝒱₀ ER (sched m ρ) (c : Thread nD τ) none (κ := K (c, .inl ()))
      (wpE_semWait_eq 𝒱₀ (c : Thread nD τ) none Set.univ) (Set.mem_univ _) () (O := O₁ c) (W := W) (R := 0) (m := 0) (T := ∅)
      (by rw [expect_bar]; decide)) $$ [Hcb HO Hab]
  · isplitr; · iexact HI
    isplitl [Hcb]; · iexact Hcb
    isplitl [HO]; · iexact HO
    isplitr; · iapply (mayWait_bar (F := F) c); iexact HL
    iexact Hab
  iintro ⟨HO, Hab, -, Hpay⟩
  ihave Hp := (Entails.of_eq (rest_bar m ρ c)) $$ Hpay
  ihave Hp := (Entails.of_eq (all_sep (fun r => free (F := F) p1M (dst c r) (sl r)) (fun r => free p2M (dst c r) (sl r)))) $$ Hp
  icases Hp with ⟨Hd1, Hd2⟩
  imod (Rounds.cell_close ER (sched m ρ) (Set.mem_univ (K (c, .inl ()))) (fun h => h) (R := 0 + 1) (duties_later m ρ (barCell c))) $$ [Hab] with Hzb
  · isplitr; · iexact HI
    iexact Hab
  unfold tPts
  iapply (wp_load 𝒱₀ (c : Thread nD τ) none Set.univ (m := tM) (Finset.subset_univ _)) $$ Ht; iintro Ht
  rw [show tM.view.readAt (Elt F) (Rect.unit (s := S4096x512) ![0, 0] S4096x512.size inb_S4096x512_S4096x512_0_0).toLoadRect (tstg m ρ c) = tstg m ρ c from
    Memref.readAt_unit_zero (Elt F) cc0_stg1_0 hz _ _]
  iapply (wp_load 𝒱₀ (c : Thread nD τ) none Set.univ (m := bM) (Finset.subset_univ _)) $$ Hb; iintro Hb
  iapply (wp_store 𝒱₀ (c : Thread nD τ) none Set.univ (m := bM) (r := Rect.unit (s := S4096x512) ![0, 0] S4096x512.size inb_S4096x512_S4096x512_0_0) (Mk := Finset.univ) (Finset.subset_univ _)) $$ Hb; iintro Hb
  rw [show ((bM : Memref sig .tc .vmem S4096x512 .bf16).access (Rect.unit (s := S4096x512) ![0, 0] S4096x512.size inb_S4096x512_S4096x512_0_0) : View sig .tc _ _ _).write (Elt F) f
      (k0_pay1 (tstg m ρ c)) Finset.univ = bstg m ρ c from Memref.write_access_unit_zero_univ (Elt F) cc0_scratch0 hz _ f _]
  rw [wp_bind]
  iapply (each_all c (gatherStep c) (fun l => iprop(records m ρ K ∗ xPts m ρ c ∗ bPts m ρ c ∗ owing c (stack (O₂ c) (fun r => tallyAt (v1Cell (dst c r) r) () N) l))) _ _
    (fun r l Q => gather_step m ρ K c r l Q))
  simp only [all_sep]
  isplitl [HO Hx Hb]
  · isplitr; · iexact HR
    isplitl [Hx]; · iexact Hx
    isplitl [Hb]; · unfold bPts; iexact Hb
    unfold O₁ owing; iexists _; iexact HO
  isplitl [Hf0 Hd1 Ht1 Ht2]
  · isplitl [Hf0]; · iexact Hf0
    isplitl [Hd1]; · iexact Hd1
    isplitl [Ht1] <;> iassumption
  iintro ⟨⟨-, Hx, Hb, HO⟩, Hc1⟩
  rw [wp_bind]
  iapply (gather_into m ρ c _ (k0_off2_inb c) 0)
  isplitl [Hx Hb H0]
  · isplitl [Hx]; · iexact Hx
    isplitl [Hb] <;> iassumption
  iintro ⟨Hx, Hb, H0⟩
  iapply HQ
  isplitl [HO]; · unfold owing; iexact HO
  isplitl [Hx]; · iexact Hx
  isplitl [Ht]; · iexact Ht
  isplitl [Hb]; · unfold bPts; iexists _; iexact Hb
  isplitl [H0]; · unfold partOwn; iexact H0
  isplitl [Hzb]; · iexact Hzb
  isplitl [Hd2] <;> iassumption

end Cert.KernelIdeal.Lookup

end
-- ==== Proof.Body.lean ====
/-
  The body from the state the launch leaves it in to the state the exit takes: the buffers of sixteen slots taken apart
  and put together again, and the pipeline's account of the three staged arrays.
-/
module

public import proofs.«01_k».proof.Proof.Phases
public import Idealize.ShloMosaic.Lib.Ring

@[expose] public section

noncomputable section

namespace Cert.KernelIdeal.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A buffer of sixteen slots -/

theorem mem_slotRect (s : Fin 16) (i : S16x64x512.Idx) : i ∈ (slotRect s).set ↔ (i 0).val = s.val := by
  rw [Rect.mem_set_unit]
  constructor
  · intro h; have := h 0
    have e0 : (![s.val, 0, 0] : Fin 3 → Nat) 0 = s.val := rfl
    have e1 : S1x64x512.size 0 = 1 := rfl
    rw [e0, e1] at this; omega
  · intro h a
    have hi := (i a).isLt
    fin_cases a
    · exact ⟨le_of_eq h.symm, by show (i 0).val < s.val + 1; omega⟩
    · exact ⟨Nat.zero_le _, by show (i 1).val < 0 + 64; have : (i 1).val < 64 := hi; omega⟩
    · exact ⟨Nat.zero_le _, by show (i 2).val < 0 + 512; have : (i 2).val < 512 := hi; omega⟩

theorem slot_set_map (b : Memref sig .tc .vmem S16x64x512 .f32) (s : Fin 16) : (slot b s).view.set = (slotRect s).set.map b.view.emb :=
  (slot_set b s).trans (View.set_slice _ _)

/-- The elements of a slot, among those of its buffer. -/
def slotIn (b : Memref sig .tc .vmem S16x64x512 .f32) (c : Dev nD) (s : Fin 16) : Finset (Idx (b.view.loc (c : Thread nD τ))) := (slot b s).view.set

theorem slots_disjoint (b : Memref sig .tc .vmem S16x64x512 .f32) (c : Dev nD) (s s' : Fin 16) (h : s ≠ s') : Disjoint (slotIn b c s) (slotIn b c s') := by
  unfold slotIn; rw [slot_set_map, slot_set_map, Finset.disjoint_map, Finset.disjoint_left]
  intro i hi hi'
  rw [mem_slotRect] at hi hi'
  exact h (Fin.ext (hi.symm.trans hi'))
theorem slots_cover (b : Memref sig .tc .vmem S16x64x512 .f32) (c : Dev nD) (hb : b.view.set = Finset.univ) :
    (Finset.univ : Finset (Fin 16)).biUnion (slotIn b c) = Finset.univ := by
  refine Finset.eq_univ_iff_forall.mpr fun i => ?_
  have hi : (i : b.view.ty.Idx) ∈ b.view.set := by rw [hb]; exact Finset.mem_univ _
  obtain ⟨x, -, hx'⟩ := Finset.mem_map.mp hi
  have hx : (x 0).val < 16 := (x 0).isLt
  refine Finset.mem_biUnion.mpr ⟨⟨(x 0).val, hx⟩, Finset.mem_univ _, ?_⟩
  unfold slotIn; rw [slot_set_map, ← hx']
  exact Finset.mem_map_of_mem _ ((mem_slotRect ⟨(x 0).val, hx⟩ x).mpr rfl)

/-- A slot with whatever contents, as a part of its buffer. -/
theorem free_eq (b : Memref sig .tc .vmem S16x64x512 .f32) (c : Dev nD) (s : Fin 16) :
    (free b c s : sProp 𝕄) = iprop(∃ f : Buf (Elt F) (b.view.loc (c : Thread nD τ)), b.view.loc (c : Thread nD τ) ↦[slotIn b c s]{fullShare} f) := by
  have h1 : (free b c s : sProp 𝕄) ⊢ iprop(∃ f : Buf (Elt F) (b.view.loc (c : Thread nD τ)), b.view.loc (c : Thread nD τ) ↦[slotIn b c s]{fullShare} f) := by
    unfold free full owns
    iintro ⟨%W, %f, -, H⟩
    iexists f; iexact H
  have h2 : (iprop(∃ f : Buf (Elt F) (b.view.loc (c : Thread nD τ)), b.view.loc (c : Thread nD τ) ↦[slotIn b c s]{fullShare} f) : sProp 𝕄) ⊢ free b c s := by
    iintro ⟨%f, H⟩
    unfold free
    iexists (slot b s).view.read (Elt F) f
    iapply (full_intro b c s f _ rfl); iexact H
  exact BI.Entails.antisymm h1 h2

/-- A slot held at some contents is held at whatever contents. -/
theorem slot_some (b : Memref sig .tc .vmem S16x64x512 .f32) (c : Dev nD) (s : Fin 16) (f : Buf (Elt F) (b.view.loc (c : Thread nD τ))) :
    (b.view.loc (c : Thread nD τ) ↦[slotIn b c s]{fullShare} f : sProp 𝕄)
      ⊢ iprop(∃ f : Buf (Elt F) (b.view.loc (c : Thread nD τ)), b.view.loc (c : Thread nD τ) ↦[slotIn b c s]{fullShare} f) := by
  iintro H; iexists f; iexact H

theorem slots_out (b : Memref sig .tc .vmem S16x64x512 .f32) (hb : b.view.set = Finset.univ) (c : Dev nD) (f : Buf (Elt F) (b.view.loc (c : Thread nD τ))) :
    (b.view.loc (c : Thread nD τ) ↦{fullShare} f : sProp 𝕄)
      ⊢ bigSep Finset.univ fun s : Fin 16 => iprop(∃ f : Buf (Elt F) (b.view.loc (c : Thread nD τ)), b.view.loc (c : Thread nD τ) ↦[slotIn b c s]{fullShare} f) :=
  BIBase.Entails.trans (Entails.of_eq (Ring.pointsTo_blocks (slotIn b c) (slots_disjoint b c) (slots_cover b c hb) (q := fullShare) f))
    (bigSep_mono fun s _ => slot_some b c s f)

theorem slots_in (b : Memref sig .tc .vmem S16x64x512 .f32) (hb : b.view.set = Finset.univ) (c : Dev nD) (f₀ : Buf (Elt F) (b.view.loc (c : Thread nD τ))) :
    (bigSep Finset.univ fun s : Fin 16 => iprop(∃ f : Buf (Elt F) (b.view.loc (c : Thread nD τ)), b.view.loc (c : Thread nD τ) ↦[slotIn b c s]{fullShare} f))
      ⊢ (iprop(∃ f : Buf (Elt F) (b.view.loc (c : Thread nD τ)), b.view.loc (c : Thread nD τ) ↦{fullShare} f) : sProp 𝕄) :=
  Ring.pointsTo_blocks_join_exists (slotIn b c) (slots_disjoint b c) (slots_cover b c hb) f₀

/-- A whole buffer is its sixteen slots. -/
theorem slots_whole (b : Memref sig .tc .vmem S16x64x512 .f32) (hb : b.view.set = Finset.univ) (c : Dev nD) :
    (iprop(∃ f : Buf (Elt F) (b.view.loc (c : Thread nD τ)), b.view.loc (c : Thread nD τ) ↦{fullShare} f) : sProp 𝕄) = iprop(free b c 0 ∗ all fun r => free b c (sl r)) := by
  rw [← slots_split (fun s => (free b c s : sProp 𝕄)), bigSep_congr (fun s _ => free_eq b c s)]
  have h1 : (iprop(∃ f : Buf (Elt F) (b.view.loc (c : Thread nD τ)), b.view.loc (c : Thread nD τ) ↦{fullShare} f) : sProp 𝕄)
      ⊢ bigSep Finset.univ fun s : Fin 16 => iprop(∃ f : Buf (Elt F) (b.view.loc (c : Thread nD τ)), b.view.loc (c : Thread nD τ) ↦[slotIn b c s]{fullShare} f) := by
    iintro ⟨%f, H⟩
    iapply (slots_out b hb c f); iexact H
  exact BI.Entails.antisymm h1 (slots_in b hb c (fun _ => Classical.arbitrary _))

variable (m : (ℓ : Loc nD τ sig) → Buf (Elt F) ℓ) (ρ : Dev nD → PrngReg)

/-! ## The state around the body -/

/-- The protocol's semaphores, kind by kind. -/
theorem kix_split (Φ : Kix → sProp 𝕄) :
    bigSep Finset.univ Φ = iprop(Φ (.inl ()) ∗ (all fun r => Φ (.inr (0, r))) ∗ (all fun r => Φ (.inr (1, r))) ∗ (all fun r => Φ (.inr (2, r))) ∗ (all fun r => Φ (.inr (3, r)))) := by
  have h4 (Ψ : Fin 4 → sProp 𝕄) : bigSep Finset.univ Ψ = iprop(Ψ 0 ∗ Ψ 1 ∗ Ψ 2 ∗ Ψ 3) := bigSep_univ_eq_bigSepL [0, 1, 2, 3] (by decide) (by decide) Ψ
  rw [bigSep_univ_sum, bigSep_univ_of_subsingleton (), bigSep_univ_prod, h4]
  rfl

/-- The tokens of the payments device `c` makes. -/
def payToks (c : Dev nD) : sProp 𝕄 :=
  iprop((all fun r => dutyTok ER (barCell (dst c r)) 0 r) ∗ (all fun r => dutyTok ER (s1Cell c r) 0 0) ∗ (all fun r => dutyTok ER (v1Cell (dst c r) r) 0 0)
    ∗ (all fun r => dutyTok ER (s2Cell c r) 0 0) ∗ (all fun r => dutyTok ER (v2Cell (dst c r) r) 0 0))
/-- What device `c` has of the protocol at the start, at some names of the semaphores' records. -/
def ghost (K : Dev nD × Kix → ℕ) (c : Dev nD) : sProp 𝕄 :=
  iprop(records m ρ K ∗ (bigSep Finset.univ fun k : Kix => atPos ER (kcell (c, k)) 0 ∅ 0) ∗ payToks c)
/-- The credit for what the others pay device `c`. -/
def creds (c : Dev nD) : sProp 𝕄 :=
  iprop(cred (tallyAt (barCell c) () 15) ∗ (all fun r => cred (tallyAt (v1Cell c r) () N)) ∗ (all fun r => cred (tallyAt (v2Cell c r) () N)))
/-- The four semaphores of slot 0, which nothing uses. -/
def idle (c : Dev nD) : sProp 𝕄 := bigSep Finset.univ fun j : Fin 4 => semVal ((c : Thread nD τ), .dma (semAt (semArr j) 0)) 0
/-- What device `c`'s body starts from, besides its buffers. -/
def start (c : Dev nD) : sProp 𝕄 := iprop((∃ K, ghost m ρ K c) ∗ idle c ∗ creds c ∗ levAts L lv)

/-- The core's own buffers, at whatever contents. -/
abbrev scratch (c : Dev nD) : sProp 𝕄 := Pipeline.scopedRest (Ix := Unit) (Name := ℕ) (U := UU) (Lvl := ℕ) (Val := Elt F) cfg0.spec c

def Φ₀ (c : Dev nD) : sProp 𝕄 := iprop(start m ρ c ∗ scratch c)
/-- After the body: every semaphore at zero, the buffers at whatever contents. -/
def Φ₁ (c : Dev nD) : sProp 𝕄 := iprop((bigSep Finset.univ fun k : Kix => semVal (kcell (c, k)) 0) ∗ idle c ∗ scratch c)

/-- The pipeline's account of device `c`: the two arguments stay, the result is written. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => tstg m ρ c
    | ⟨2, _⟩ => outAt m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev t₀ : Fin cfg0.N := t0_0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ c ∗ (dats m ρ 0 c).owesAt () t₀.succ ∗ stg c cc0_stg0_0 (xstg m ρ c) ∗ stg c cc0_stg1_0 (tstg m ρ c) ∗ stg c cc0_stg2_0 (outAt m ρ))

/-- The five buffers, three of them slot by slot. -/
theorem scratch_eq (c : Dev nD) : (scratch c : sProp 𝕄) =
    iprop((∃ f : (cc0_scratch0 : Ref sig .tc).ty.Contents (Elt F), ((c : Thread nD τ).loc cc0_scratch0) ↦{fullShare} f)
      ∗ (free p0M c 0 ∗ all fun r => free p0M c (sl r)) ∗ (free p1M c 0 ∗ all fun r => free p1M c (sl r))
      ∗ (∃ f : (cc0_scratch3 : Ref sig .tc).ty.Contents (Elt F), ((c : Thread nD τ).loc cc0_scratch3) ↦{fullShare} f)
      ∗ (free p2M c 0 ∗ all fun r => free p2M c (sl r))) := by
  rw [← slots_whole p0M (View.set_whole _) c, ← slots_whole p1M (View.set_whole _) c, ← slots_whole p2M (View.set_whole _) c]
  exact scopedRest0_eq c

/-- The loops, from the state the launch leaves to the state the exit takes. -/
theorem loops_run (c : Dev nD) (Q : PUnit → sProp 𝕄) :
    iprop(bodyPre m ρ c ∗ (bodyPost m ρ c -∗ Q ⟨⟩)) ⊢ run c (headProg c) Q := by
  unfold bodyPre Φ₀ start ghost creds payToks
  rw [scratch_eq]
  iintro ⟨⟨⟨⟨⟨%K, #HR, Hat, Htb, Ht1, Hu1, Ht2, Hu2⟩, Hidle, ⟨Hcb, Hc1, Hc2⟩, #HL⟩, Hb, ⟨H00, H0⟩, ⟨H10, H1⟩, Hr, ⟨H20, H2⟩⟩,
    Ho, ⟨%d0, %g0, %hg0, Hx⟩, ⟨%d1, %g1, %hg1, Ht⟩, ⟨%d2, %g2, %hg2, Hout⟩⟩, HQ⟩
  have hx : g0 = xstg m ρ c := by rw [hg0]; unfold Dat.before; rw [if_pos (fetch0_0 t₀)]; rfl
  subst hx
  have ht : g1 = tstg m ρ c := by rw [hg1]; unfold Dat.before; rw [if_pos (fetch0_1 t₀)]; rfl
  subst ht
  ihave Hat := (Entails.of_eq (kix_split (fun k : Kix => (atPos ER (kcell (c, k)) 0 ∅ 0 : sProp 𝕄)))) $$ Hat
  icases Hat with ⟨Hab, Ha0, Ha1, Ha2, Ha3⟩
  unfold Dat.owesAt Pipeline.owesWithin
  icases Ho with ⟨%W, %hW, HO⟩
  rw [show (dats m ρ 0 c).owed t₀.castSucc = O₀ c from rfl]
  iapply (head_run m ρ K c Q)
  unfold headPre headPost
  isplitr; · iexact HR
  isplitr; · iexact HL
  isplitl [HO Hx Ht Hb H00 H0 H1 H2 Hcb Hab Htb Ht1 Hu1]
  · isplitl [HO]; · unfold owing; iexists W; iexact HO
    isplitl [Hx]; · unfold xPts; iexact Hx
    isplitl [Ht]; · unfold tPts; iexact Ht
    isplitl [Hb]; · iexact Hb
    isplitl [H00]; · iexact H00
    isplitl [H0]; · iexact H0
    isplitl [H1]; · iexact H1
    isplitl [H2]; · iexact H2
    isplitl [Hcb]; · iexact Hcb
    isplitl [Hab]; · iexact Hab
    isplitl [Htb]; · iexact Htb
    isplitl [Ht1] <;> iassumption
  iintro ⟨HO, Hx, Ht, Hb, H00, Hzb, Hd2, Hcs1⟩
  iapply (mid_run m ρ K c Q)
  unfold midPre midPost
  isplitr; · iexact HR
  isplitr; · iexact HL
  isplitl [HO H00 Hr Hout Hc1 Ha1 Hd2 Ht2 Hu2 Hcs1 Ha0 Hc2 Ha3 Ha2]
  · isplitl [HO]; · iexact HO
    isplitl [H00]; · iexact H00
    isplitl [Hr]; · iexact Hr
    isplitl [Hout]; · iexists g2; unfold oPts; iexact Hout
    isplitl [Hc1]; · iexact Hc1
    isplitl [Ha1]; · iexact Ha1
    isplitl [Hd2]; · iexact Hd2
    isplitl [Ht2]; · iexact Ht2
    isplitl [Hu2]; · iexact Hu2
    isplitl [Hcs1]; · iexact Hcs1
    isplitl [Ha0]; · iexact Ha0
    isplitl [Hc2]; · iexact Hc2
    isplitl [Ha3] <;> iassumption
  iintro ⟨HO, Hout, Hr, H00, H0, H1, H2, Hz0, Hz1, Hz2, Hz3⟩
  iapply HQ
  unfold bodyPost Φ₁ Dat.owesAt Pipeline.owesWithin
  rw [show (dats m ρ 0 c).owed t₀.succ = 0 from rfl, scratch_eq, kix_split (fun k : Kix => (semVal (kcell (c, k)) 0 : sProp 𝕄))]
  isplitl [Hzb Hz0 Hz1 Hz2 Hz3 Hidle Hb H00 H0 H10 H1 Hr H20 H2]
  · isplitl [Hzb Hz0 Hz1 Hz2 Hz3]
    · isplitl [Hzb]; · iexact Hzb
      isplitl [Hz0]; · iexact Hz0
      isplitl [Hz1]; · iexact Hz1
      isplitl [Hz2] <;> iassumption
    isplitl [Hidle]; · iexact Hidle
    isplitl [Hb]; · iexact Hb
    isplitl [H00 H0]
    · isplitl [H00] <;> iassumption
    isplitl [H10 H1]
    · isplitl [H10] <;> iassumption
    isplitl [Hr]; · iexact Hr
    isplitl [H20] <;> iassumption
  isplitl [HO]
  · unfold owing
    icases HO with ⟨%W', HO⟩
    iexists W'
    isplitr; · ipureintro; exact fun _ _ => Or.inl trivial
    iexact HO
  isplitl [Hx]
  · iexists _; isplitr; · (ipureintro; rfl)
    unfold xPts; iexact Hx
  isplitl [Ht]
  · iexists _; isplitr; · (ipureintro; rfl)
    unfold tPts; iexact Ht
  iexists _; isplitr; · (ipureintro; rfl)
  unfold oPts; iexact Hout

set_option maxRecDepth 65536 in
set_option maxHeartbeats 1000000 in
/-- The printed body is the loops on the device it runs on. -/
theorem sound_body (c : Dev nD) (Q : PUnit → sProp 𝕄) :
    iprop(bodyPre m ρ c ∗ (bodyPost m ρ c -∗ Q ⟨⟩)) ⊢ run c (bodyProg (F := F)) Q := by
  have h : bodyProg (F := F) = .op .deviceId fun c : Dev nD => headProg c := rfl
  rw [h]; unfold run; rw [wp_deviceId]
  exact loops_run m ρ c Q

set_option maxRecDepth 65536 in
set_option maxHeartbeats 1000000 in
/-- The pipeline's obligation for the body on core `c`. -/
theorem body_obligation (c : Dev nD) : BodyObligation (dats (F := F) m ρ 0 c) (defs₀ (F := F)) 𝒱₀ () Set.univ := fun t => by
  rw [show t = t₀ from fin_N0 t]
  rw [show (bigSep Finset.univ : (Fin cfg0.W → sProp 𝕄) → sProp 𝕄) = fun Φ => iprop(Φ (0 : Fin 3) ∗ Φ (1 : Fin 3) ∗ Φ (2 : Fin 3)) from funext bigSep_W0]
  simp only [owns_whole_eq]
  show bodyPre m ρ c ⊢ run c (bodyAt0 (F := F) t₀) (fun _ => bodyPost m ρ c)
  rw [show bodyAt0 (F := F) t₀ = bodyProg from body_eq]
  iintro H
  iapply (sound_body m ρ c fun _ => bodyPost m ρ c)
  isplitl [H]; · iexact H
  iintro H; iexact H

end Cert.KernelIdeal.Lookup

end
-- ==== Proof.Deal.lean ====
/-
  What the launch deals out: every semaphore of the protocol at the start of its one round, the tokens of the payments handed
  to the devices that make them, and the credit for what each device is paid.
-/
module

public import proofs.«01_k».proof.Proof.Body

@[expose] public section

noncomputable section

namespace Cert.KernelIdeal.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: four arrays of sixteen. -/
abbrev osem (js : Fin 4 × Fin 16) : SemLoc sig := .dma (semAt (semArr js.1) js.2)

set_option maxRecDepth 8000 in
theorem ownSemFacts : Pipeline.OwnSemFacts cfg0.spec osem := by decide +kernel

theorem unscopedSems0_eq (c : Dev nD) : (unscopedSems0 c : sProp 𝕄) = semVal (barCell c) 0 := by
  unfold unscopedSems0; rw [bigSep_eq_bigSepL_of_eq [SemLoc.reg barS] (by decide) (by decide)]; rfl

theorem swap_outer (A B C : sProp 𝕄) : (iprop((A ∗ B) ∗ C) : sProp 𝕄) = iprop((C ∗ B) ∗ A) := by
  have h (A B C : sProp 𝕄) : iprop((A ∗ B) ∗ C) ⊢ iprop((C ∗ B) ∗ A) := by
    iintro ⟨⟨H1, H2⟩, H3⟩
    isplitl [H3 H2]
    · isplitl [H3] <;> iassumption
    iexact H1
  exact BI.Entails.antisymm (h A B C) (h C B A)

/-- The kernel's own semaphores and the barrier are the protocol's and the four that nothing uses. -/
theorem sems_eq (c : Dev nD) :
    iprop(Pipeline.ownSems0 (Ix := Unit) (Name := ℕ) (U := UU) (Lvl := ℕ) (Val := Elt F) (τ := τ) osem c ∗ unscopedSems0 c)
      = (iprop((bigSep Finset.univ fun k : Kix => semVal (kcell (c, k)) 0) ∗ idle c) : sProp 𝕄) := by
  have h1 : (Pipeline.ownSems0 (Ix := Unit) (Name := ℕ) (U := UU) (Lvl := ℕ) (Val := Elt F) (τ := τ) osem c : sProp 𝕄)
      = iprop(idle c ∗ bigSep Finset.univ fun jr : Fin 4 × Fin 15 => semVal (kcell (c, .inr jr)) 0) := by
    unfold Pipeline.ownSems0 idle
    rw [bigSep_univ_prod, bigSep_univ_prod, bigSep_congr (fun j _ => slots_split (fun s => semVal ((c : Thread nD τ), osem (j, s)) 0)), bigSep_sep']
  have h2 : (bigSep Finset.univ fun k : Kix => (semVal (kcell (c, k)) 0 : sProp 𝕄))
      = iprop(semVal (barCell c) 0 ∗ bigSep Finset.univ fun jr : Fin 4 × Fin 15 => semVal (kcell (c, .inr jr)) 0) := by
    rw [bigSep_univ_sum, bigSep_univ_of_subsingleton ()]; rfl
  rw [h1, h2, unscopedSems0_eq]
  exact swap_outer _ _ _

/-! ## The tokens -/

/-- A device's own semaphores' payments: the barrier's fifteen, one for each transfer's semaphore. -/
abbrev Tix : Type := Fin 15 ⊕ (Fin 4 × Fin 15)
abbrev tokOf (ct : Dev nD × Tix) : GSem nD τ sig × ℕ × Fin 15 := match ct.2 with
  | .inl r => (barCell ct.1, 0, r)
  | .inr jr => (kcell (ct.1, .inr jr), 0, 0)
theorem tokOf_injective : Function.Injective tokOf := by
  rintro ⟨c, t⟩ ⟨c', t'⟩ h
  have h1 : (tokOf (c, t)).1 = (tokOf (c', t')).1 := congrArg (fun x => x.1) h
  have h2 : (tokOf (c, t)).2.2 = (tokOf (c', t')).2.2 := congrArg (fun x => x.2.2) h
  rcases t with r | jr <;> rcases t' with r' | jr'
  · have e := kcell_injective (a₁ := (c, .inl ())) (a₂ := (c', .inl ())) h1
    rw [show c = c' from congrArg Prod.fst e, show r = r' from h2]
  · exact absurd (congrArg Prod.snd (kcell_injective (a₁ := (c, .inl ())) (a₂ := (c', .inr jr')) h1)) (fun h => by cases h)
  · exact absurd (congrArg Prod.snd (kcell_injective (a₁ := (c, .inr jr)) (a₂ := (c', .inl ())) h1)) (fun h => by cases h)
  · have e := kcell_injective (a₁ := (c, .inr jr)) (a₂ := (c', .inr jr')) h1
    rw [show c = c' from congrArg Prod.fst e, show jr = jr' from Sum.inr.inj (congrArg Prod.snd e)]

def cells : Finset (GSem nD τ sig) := Finset.univ.map ⟨kcell, kcell_injective⟩
def payments : Finset (GSem nD τ sig × ℕ × Fin 15) := Finset.univ.map ⟨tokOf, tokOf_injective⟩

def u₀ : UU := (initOf (Pipeline.cells cfgs cellOf_inj) (Pipeline.launchToks cfgs cellOf_inj), initOf cells payments)

/-- The tokens of device `c`'s own semaphores. -/
def toks (c : Dev nD) : sProp 𝕄 :=
  iprop((all fun r => dutyTok ER (barCell c) 0 r) ∗ (all fun r => dutyTok ER (s1Cell c r) 0 0) ∗ (all fun r => dutyTok ER (v1Cell c r) 0 0)
    ∗ (all fun r => dutyTok ER (s2Cell c r) 0 0) ∗ (all fun r => dutyTok ER (v2Cell c r) 0 0))

theorem toks_eq (c : Dev nD) : (bigSep Finset.univ fun t : Tix => (dutyTok ER (tokOf (c, t)).1 (tokOf (c, t)).2.1 (tokOf (c, t)).2.2 : sProp 𝕄)) = toks c := by
  have h4 (Ψ : Fin 4 → sProp 𝕄) : bigSep Finset.univ Ψ = iprop(Ψ 0 ∗ Ψ 1 ∗ Ψ 2 ∗ Ψ 3) := bigSep_univ_eq_bigSepL [0, 1, 2, 3] (by decide) (by decide) Ψ
  rw [bigSep_univ_sum, bigSep_univ_prod, h4]; rfl

/-- What the launch deals device `c`. -/
def G (c : Dev nD) : sProp 𝕄 :=
  iprop((bigSep Finset.univ fun k : Kix => roundState ER (sched m ρ) (kcell (c, k)) 0)
    ∗ (bigSep Finset.univ fun k : Kix => iprop(atPos ER (kcell (c, k)) 0 ∅ 0 ∗ reached ER (kcell (c, k)) 0)) ∗ toks c)
/-- What is made of it. -/
def G' (c : Dev nD) : sProp 𝕄 := iprop((∃ K, ghost m ρ K c) ∗ idle c)

theorem fund_cells : BI.own (ER (initOf cells payments)) ⊢ (|==> bigSep Finset.univ (G m ρ) : sProp 𝕄) := by
  have hX (Φ : GSem nD τ sig → sProp 𝕄) : bigSep cells Φ = bigSep Finset.univ fun c : Dev nD => bigSep Finset.univ fun k : Kix => Φ (kcell (c, k)) := by
    unfold cells; rw [bigSep_map, bigSep_univ_prod]; rfl
  have hT : bigSep payments (fun x => (dutyTok ER x.1 x.2.1 x.2.2 : sProp 𝕄)) = bigSep Finset.univ fun c : Dev nD => toks c := by
    unfold payments; rw [bigSep_map, bigSep_univ_prod]
    exact bigSep_congr fun c _ => toks_eq c
  iintro HX
  imod (Rounds.fund ER (sched m ρ) cells payments) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem alloc_all (c : Dev nD) :
    iprop((bigSep Finset.univ fun k : Kix => semVal (kcell (c, k)) 0) ∗ bigSep Finset.univ fun k : Kix => roundState ER (sched m ρ) (kcell (c, k)) 0)
      ⊢ (|={Set.univ}=> bigSep Finset.univ fun k => iprop(∃ κ : ℕ, cellInv ER (sched m ρ) κ (kcell (c, k))) : sProp 𝕄) := by
  rw [← bigSep_sep']
  exact BIBase.Entails.trans (bigSep_mono fun k _ => BIBase.Entails.trans (Rounds.body_intro ER (sched m ρ) (kcell (c, k))) inv_alloc) (bigSep_fupd _ _)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c ∗ idle c) := by
  unfold G
  iintro ⟨Hos, Hus, Hst, Hat, Htok⟩
  ihave Hv := (Entails.of_eq (sems_eq (F := F) c)) $$ [Hos Hus]
  · isplitl [Hos] <;> iassumption
  icases Hv with ⟨Hv, Hi⟩
  imod (alloc_all m ρ c) $$ [Hv Hst] with Hinv
  · isplitl [Hv] <;> iassumption
  imodintro
  isplitl [Hinv]; · iexact Hinv
  isplitl [Hat]; · iexact Hat
  isplitl [Htok] <;> iassumption

/-- What is held for every device and offset may be counted from the device the offset leads to. -/
theorem around (Φ : Dev nD → Fin 15 → sProp 𝕄) :
    (bigSep Finset.univ fun c : Dev nD => all fun r => Φ c r) = bigSep Finset.univ fun c : Dev nD => all fun r => Φ (dst c r) r := by
  rw [Pipeline.bigSep_univ_comm Φ, Pipeline.bigSep_univ_comm (fun c r => Φ (dst c r) r)]
  exact bigSep_congr fun r _ => bigSep_univ_equiv (shift r) (fun c => Φ c r)

theorem toks_around : (bigSep Finset.univ fun c : Dev nD => (toks c : sProp 𝕄)) = bigSep Finset.univ fun c : Dev nD => payToks c := by
  unfold toks payToks
  simp only [bigSep_sep']
  rw [around (fun c r => dutyTok ER (barCell c) 0 r), around (fun c r => dutyTok ER (v1Cell c r) 0 0), around (fun c r => dutyTok ER (v2Cell c r) 0 0)]

/-- What stays with device `c`. -/
def linear (c : Dev nD) : sProp 𝕄 :=
  iprop((bigSep Finset.univ fun k : Kix => atPos ER (kcell (c, k)) 0 ∅ 0) ∗ payToks c ∗ idle c)

theorem ghost_intro (K : Dev nD × Kix → ℕ) (c : Dev nD) : iprop(records m ρ K ∗ linear c) ⊢ G' m ρ c := by
  unfold linear G' ghost
  iintro ⟨#HR, Hat, Ht, Hi⟩
  isplitl [Hat Ht]
  · iexists K
    isplitr; · iexact HR
    isplitl [Hat] <;> iassumption
  iexact Hi

theorem with_persistent {S : Finset (Dev nD)} {R : sProp 𝕄} [BI.Persistent R] {Φ Ψ : Dev nD → sProp 𝕄}
    (h : ∀ i ∈ S, iprop(R ∗ Φ i) ⊢ Ψ i) : iprop(R ∗ bigSep S Φ) ⊢ bigSep S Ψ :=
  BIBase.Entails.trans (sep_mono_left (BI.bigSep_of_persistent S R)) (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c ∗ idle c) : sProp 𝕄)
      ⊢ bigSep Finset.univ (G' m ρ) := by
  rw [bigSep_sep', bigSep_sep', bigSep_sep', ← bigSep_univ_prod (fun ck : Dev nD × Kix => iprop(∃ κ : ℕ, cellInv ER (sched m ρ) κ (kcell ck))),
    bigSep_congr (s := Finset.univ) (fun (c : Dev nD) _ => bigSep_sep' Finset.univ (fun k : Kix => (atPos ER (kcell (c, k)) 0 ∅ 0 : sProp 𝕄)) (fun k => reached ER (kcell (c, k)) 0)),
    bigSep_sep', ← bigSep_univ_prod (fun ck : Dev nD × Kix => (reached ER (kcell ck) 0 : sProp 𝕄)), toks_around]
  iintro ⟨HI, ⟨Hat, #HR⟩, Htok, Hi⟩
  ihave HK := (BI.bigSep_exists_pi Finset.univ (fun (ck : Dev nD × Kix) (κ : ℕ) => (cellInv ER (sched m ρ) κ (kcell ck) : sProp 𝕄))) $$ HI
  icases HK with ⟨%K, #HI⟩
  iapply (with_persistent (R := records m ρ K) fun c _ => ghost_intro m ρ K c)
  isplitr
  · unfold records; isplitl; · iexact HI
    iexact HR
  · unfold linear
    rw [bigSep_sep', bigSep_sep']
    isplitl [Hat]; · iexact Hat
    isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  BIBase.Entails.trans (BIBase.Entails.trans (bigSep_mono fun c _ => core_alloc m ρ c) (bigSep_fupd _ _)) (BI.fupd_mono (regroup m ρ))

/-! ## The credit -/

theorem stack_at (O : CellTallies nD τ sig Unit) (f : Fin 15 → CellTallies nD τ sig Unit) (g : GSem nD τ sig) :
    ∀ l : List (Fin 15), stack O f l g () = O g () + (l.map fun r => f r g ()).sum
  | [] => by unfold stack; simp
  | r :: l => by
    unfold stack
    rw [Pi.add_apply, Finsupp.add_apply, stack_at O f g l, List.map_cons, List.sum_cons]; omega
theorem stack_all (O : CellTallies nD τ sig Unit) (f : Fin 15 → CellTallies nD τ sig Unit) (g : GSem nD τ sig) :
    stack O f offs g () = O g () + ∑ r, f r g () := by
  rw [stack_at, Fin.sum_univ_def]; rfl

/-- What every device together owes one semaphore over one payment of every offset. -/
theorem owed_sum (k : Fin 15 → Kix) (n : ℕ) (c : Dev nD) (k' : Kix) :
    (∑ d : Dev nD, ∑ r : Fin 15, (tallyAt (kcell (dst d r, k r)) () n : CellTallies nD τ sig Unit) (kcell (c, k')) ()) = ∑ r : Fin 15, if k r = k' then n else 0 := by
  rw [Finset.sum_comm]
  refine Finset.sum_congr rfl fun r _ => ?_
  refine (Equiv.sum_comp (shift r) (fun d => (tallyAt (kcell (d, k r)) () n : CellTallies nD τ sig Unit) (kcell (c, k')) ())).trans ?_
  have h (d : Dev nD) : (tallyAt (kcell (d, k r)) () n : CellTallies nD τ sig Unit) (kcell (c, k')) () = if d = c then (if k r = k' then n else 0) else 0 := by
    rw [tallyAt_apply]
    by_cases h : kcell (c, k') = kcell (d, k r)
    · have e := kcell_injective h
      rw [if_pos ⟨h, rfl⟩, if_pos (congrArg Prod.fst e).symm, if_pos (congrArg Prod.snd e).symm]
    · rw [if_neg fun h' => h h'.1]
      by_cases hd : d = c
      · rw [if_pos hd, if_neg fun hk => h (by rw [hd, hk])]
      · rw [if_neg hd]
  rw [Finset.sum_congr rfl fun d _ => h d, Finset.sum_ite_eq' Finset.univ c fun _ => if k r = k' then n else 0, if_pos (Finset.mem_univ _)]

theorem owed_all (c : Dev nD) (k' : Kix) : (∑ d : Dev nD, O₀ d (kcell (c, k')) ())
    = (∑ r : Fin 15, if (.inr (3, r) : Kix) = k' then N else 0) + (∑ r : Fin 15, if (.inr (1, r) : Kix) = k' then N else 0) + ∑ r : Fin 15, if (.inl () : Kix) = k' then 1 else 0 := by
  have h (d : Dev nD) : O₀ d (kcell (c, k')) () = (∑ r, (tallyAt (kcell (dst d r, .inr (3, r))) () N : CellTallies nD τ sig Unit) (kcell (c, k')) ())
      + (∑ r, (tallyAt (kcell (dst d r, .inr (1, r))) () N : CellTallies nD τ sig Unit) (kcell (c, k')) ())
      + ∑ r, (tallyAt (kcell (dst d r, .inl ())) () 1 : CellTallies nD τ sig Unit) (kcell (c, k')) () := by
    unfold O₀ O₁ O₂
    rw [stack_all, stack_all, stack_all]
    rw [show ((0 : CellTallies nD τ sig Unit) (kcell (c, k')) ()) = 0 from rfl, Nat.zero_add]
  rw [Finset.sum_congr rfl fun d _ => h d, Finset.sum_add_distrib, Finset.sum_add_distrib,
    owed_sum (fun r => .inr (3, r)) N c k', owed_sum (fun r => .inr (1, r)) N c k', owed_sum (fun _ => .inl ()) 1 c k']

theorem launch_at (c : Dev nD) (k : Kix) (n : ℕ) (h : (∑ d : Dev nD, O₀ d (kcell (c, k)) ()) = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, h]

theorem launch_bar (c : Dev nD) : tallyOn (barCell c) (launchCredit (Pipeline.owing O₀) 0 (barCell c)) = (tallyAt (barCell c) () 15 : CellTallies nD τ sig Unit) :=
  launch_at c (.inl ()) 15 (by rw [owed_all]; simp)
theorem launch_v1 (c : Dev nD) (r : Fin 15) : tallyOn (v1Cell c r) (launchCredit (Pipeline.owing O₀) 0 (v1Cell c r)) = (tallyAt (v1Cell c r) () N : CellTallies nD τ sig Unit) :=
  launch_at c (.inr (1, r)) N (by rw [owed_all]; simp)
theorem launch_v2 (c : Dev nD) (r : Fin 15) : tallyOn (v2Cell c r) (launchCredit (Pipeline.owing O₀) 0 (v2Cell c r)) = (tallyAt (v2Cell c r) () N : CellTallies nD τ sig Unit) :=
  launch_at c (.inr (3, r)) N (by rw [owed_all]; simp)

theorem launch_creds (c : Dev nD) : (Pipeline.launchCred O₀ c : sProp 𝕄) ⊢ creds c := by
  unfold Pipeline.launchCred
  refine BIBase.Entails.trans (bigSep_subset (Finset.subset_univ (Finset.univ.map ⟨csem, csem_injective⟩))) ?_
  rw [bigSep_map, kix_split]
  unfold creds
  rw [← launch_bar c]
  iintro ⟨H1, -, H2, -, H3⟩
  isplitl [H1]; · iexact H1
  isplitl [H2]
  · iapply (Entails.of_eq (bigSep_congr (s := Finset.univ) (fun r _ => congrArg (fun t => (cred t : sProp 𝕄)) (launch_v1 c r)))); iexact H2
  iapply (Entails.of_eq (bigSep_congr (s := Finset.univ) (fun r _ => congrArg (fun t => (cred t : sProp 𝕄)) (launch_v2 c r)))); iexact H3

end Cert.KernelIdeal.Lookup

end
-- ==== Proof.Run.lean ====
/-
  The run: on every device at once the kernel terminates, the arguments stay, the result array holds the result, and every
  semaphore is at zero.
-/
module

public import proofs.«01_k».proof.Proof.Deal
public import Idealize.ShloMosaic.Lib.Pipeline.CollectiveSegs
public import Idealize.ShloMosaic.Lib.Pipeline.Value

@[expose] public section

noncomputable section

namespace Cert.KernelIdeal.Lookup

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  icases HG with ⟨HG, Hi⟩
  isplitl
  · isplitl [HG]; · iexact HG
    isplitl [Hi]; · iexact Hi
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨Hz, Hi, Hr⟩
  ihave H := (Entails.of_eq (sems_eq (F := F) c).symm) $$ [Hz Hi]
  · isplitl [Hz] <;> iassumption
  icases H with ⟨Ho, Hu⟩
  isplitl [Hu]; · iexact Hu
  isplitl [Ho] <;> iassumption

theorem stage_levels : ∀ (w : Fin cfg0.W) (s : Fin (cfg0.win w).nbuf), lvOf (ofSem (.dma ((cfg0.win w).sem s))) ≤ 0 := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_levels w s) _ (by
      rcases t with ⟨_ | _, ht⟩
      · exact Or.inl rfl
      · exact Or.inr rfl)

theorem share_eq (c : Dev nD) (w : Fin cfg0.W) : (dats m ρ 0 c).share w = fullShare := by unfold Dat.share; split <;> rfl

/-- What a window's array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- Every weakly fair execution of the kernel on the sixteen devices, from any memory with all semaphores at zero, terminates;
    every array then holds what the account says, and every semaphore is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The index array stays. -/
theorem finalA_idx (c : Dev nD) : finalA m ρ c (0 : Fin 3) = (s₀ m ρ).mem (win0_0.arr.view.loc (c : Thread nD τ)) :=
  (dats (F := F) m ρ 0 c).arrAt_in (0 : Fin 3) rfl _
/-- The table's block stays. -/
theorem finalA_table (c : Dev nD) : finalA m ρ c (1 : Fin 3) = (s₀ m ρ).mem (win0_1.arr.view.loc (c : Thread nD τ)) :=
  (dats (F := F) m ρ 0 c).arrAt_in (1 : Fin 3) rfl _

theorem fin_N0 (t : Fin cfg0.N) : t = t0_0 := by
  rcases t with ⟨_ | n, ht⟩
  · rfl
  · exact absurd ht (by show ¬ n + 1 < 1; omega)

theorem index_zero0 : ∀ a, win0_0.index (0 : Fin 1) a = 0 := by decide +kernel
theorem index_zero1 : ∀ a, win0_1.index (0 : Fin 1) a = 0 := by decide +kernel
theorem index_zero2 : ∀ a, win0_2.index (0 : Fin 1) a = 0 := by decide +kernel

/-- The index array's one block is the whole array. -/
theorem read_idx (X : main_arg1.ty.Contents (Elt F)) : (win0_0.blk (0 : Fin 1)).view.read (Elt F) X = X := by
  funext i
  show X ((win0_0.rect (0 : Fin 1)).emb i) = X i
  exact congrArg X (funext fun a => Fin.ext (win0_0.rect_emb_val_of_index_zero (0 : Fin 1) a (index_zero0 a) i))
/-- The table's one block is the whole array. -/
theorem read_table (X : main_arg0.ty.Contents (Elt F)) : (win0_1.blk (0 : Fin 1)).view.read (Elt F) X = X := by
  funext i
  show X ((win0_1.rect (0 : Fin 1)).emb i) = X i
  exact congrArg X (funext fun a => Fin.ext (win0_1.rect_emb_val_of_index_zero (0 : Fin 1) a (index_zero1 a) i))
theorem emb_out (i : S1024x512.Idx) : (win0_2.rect (0 : Fin 1)).emb i = i :=
  funext fun a => Fin.ext (win0_2.rect_emb_val_of_index_zero (0 : Fin 1) a (index_zero2 a) i)
/-- The result's one block is the whole array. -/
theorem read_out (X : main_v1.ty.Contents (Elt F)) : (win0_2.blk (0 : Fin 1)).view.read (Elt F) X = X := by
  funext i
  show X ((win0_2.rect (0 : Fin 1)).emb i) = X i
  exact congrArg X (emb_out i)

theorem xstg_eq (c : Dev nD) : xstg m ρ c = m ((c : Thread nD τ).loc main_arg1) := read_idx _
theorem tstg_eq (c : Dev nD) : tstg m ρ c = m ((c : Thread nD τ).loc main_arg0) := read_table _

theorem mem_blk_out (i : S1024x512.Idx) : i ∈ ((cfg0.win 2).blk t0_0).view.set := by
  have h : i ∈ (win0_2.rect (0 : Fin 1)).set := by
    have h : (win0_2.rect (0 : Fin 1)).emb i ∈ (win0_2.rect (0 : Fin 1)).set := (win0_2.rect (0 : Fin 1)).idx_mem i
    rw [emb_out] at h
    exact h
  have e := View.set_slice_whole (b := main_v1) (win0_2.rect (0 : Fin 1))
  exact e ▸ h

theorem cut_out (X : S1024x512.Idx → Elt F .f32) : win0_2.cut (cfg0.grid.coords t0_0) X = X := by
  funext i
  exact congrArg X (funext fun a => Fin.ext rfl)

theorem flushed_out (c : Dev nD) (t : Fin cfg0.N) :
    (dats m ρ 0 c).flushed 2 t = ((cfg0.win 2).blk t).view.read (Elt F) (outAt m ρ) := by
  obtain rfl := fin_N0 t
  have ha : (dats m ρ 0 c).after 2 t0_0 = outAt m ρ := by dsimp only [dats]
  unfold Pipeline.Dat.flushed
  rw [ha]
  exact (cut_out (outAt m ρ)).trans (read_out (outAt m ρ)).symm

/-- The result array holds the result. -/
theorem finalA_out (c : Dev nD) : finalA m ρ c (2 : Fin 3) = outAt m ρ :=
  (dats m ρ 0 c).arrAt_eq_of_cover 2 (outAt m ρ) (fun t _ => flushed_out m ρ c t)
    (fun i => ⟨t0_0, flush0_2 _, mem_blk_out i⟩)

/-- Every weakly fair execution terminates; every device then holds the result, the arguments stay, and every semaphore is at
    zero. -/
theorem run_result : θ_run defs (onTc (τ := τ) (main (F := F))) (s₀ m ρ) (fun r => (∀ c : Dev nD,
      r.2.mem ((c : Thread nD τ).loc main_v1) = outAt m ρ
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun _ h => ⟨fun c => ⟨(h.1 c (2 : Fin 3)).trans (finalA_out m ρ c),
    (h.1 c (1 : Fin 3)).trans (finalA_table m ρ c), (h.1 c (0 : Fin 3)).trans (finalA_idx m ρ c)⟩, h.2⟩) (run_main m ρ)

end Cert.KernelIdeal.Lookup

end
-- ==== Proof.Part.lean ====
/-
  One device's partial result over the extended reals: the row of its block that an index names, and zero where the index
  names a row of another device's block.
-/
module

public import proofs.«01_k».proof.Proof.Protocol
public import Idealize.ShloMosaic.Lib.Pointwise
public import Idealize.ShloMosaic.Lib.WordCmp

@[expose] public section

noncomputable section

namespace Cert.KernelIdeal.Lookup

open Cert.KernelIdeal Cert.KernelIdeal.Gen
open Idealize.ShloMosaic
open Idealize.ShloMosaic.TcCoe
open scoped BigOperators

/-! ## The words -/

/-- The first row of device `c`'s block, as the kernel computes it. -/
theorem base_eq : ∀ c : Dev nD, Scalar.muli (me c) 4096#32 = BitVec.ofNat 32 (c.val * 4096) := by decide +kernel

/-- The kernel's test of a column against an index: the column is the index's place in device `c`'s block, and the index is in
    that block. -/
abbrev hitBit (c : Dev nD) (w : BitVec 32) (k : Fin 4096) : BitVec 1 :=
  Scalar.andi (Scalar.cmpi .eq (BitVec.ofNat 32 k.val) (Scalar.subi w (BitVec.ofNat 32 (c.val * 4096))))
    (Scalar.andi (Scalar.cmpi .sge (Scalar.subi w (BitVec.ofNat 32 (c.val * 4096))) 0#32)
      (Scalar.cmpi .slt (Scalar.subi w (BitVec.ofNat 32 (c.val * 4096))) 4096#32))

/-- A test's bit as a number. -/
theorem bit_value (b : BitVec 1) : ((((b.setWidth 32).toInt : ℝ)) : EReal) = if b = 1#1 then 1 else 0 := by
  rcases BitVec.eq_zero_or_eq_one b with rfl | rfl <;> simp

/-- For an index of the whole table the test says that the column is the place in device `c`'s block of the row that the index
    names. -/
theorem hitBit_iff (c : Dev nD) (w : BitVec 32) (hw : w.toNat < 65536) (k : Fin 4096) :
    hitBit c w k = 1#1 ↔ w.toNat = c.val * 4096 + k.val := by
  have hc : c.val < 16 := c.isLt
  have hk := k.isLt
  show IntOp.andi (IntOp.cmpi .eq (BitVec.ofNat 32 k.val) (w - BitVec.ofNat 32 (c.val * 4096)))
    (IntOp.andi (IntOp.cmpi .sge (w - BitVec.ofNat 32 (c.val * 4096)) 0#32) (IntOp.cmpi .slt (w - BitVec.ofNat 32 (c.val * 4096)) (BitVec.ofNat 32 4096))) = 1#1 ↔ _
  rw [WordCmp.andi_sge_zero_slt_ofNat (by decide), WordCmp.cmpi_eq_eq_toNat, WordCmp.andi_ofBool, WordCmp.ofBool_eq_one_iff, Bool.and_eq_true, decide_eq_true_iff, decide_eq_true_iff,
    BitVec.toNat_sub, BitVec.toNat_ofNat, BitVec.toNat_ofNat]
  omega

/-! ## The partial result -/

/-- The partial result at one element: the sum over the block's rows of the test's bit times the row's element. -/
theorem gath_apply (c : Dev nD) (row : Vec Ideal S1x64 .i32) (tb : S4096x512.Idx → EReal) (a : Fin 64) (l : Fin 512) :
    chunk (F := Ideal) (gath (F := Ideal) c row tb) (ix2 a l)
      = ∑ k : Fin 4096, (if hitBit c (row (ix2 0 a)) k = 1#1 then 1 else 0) * tb (ix2 k l) := by
  unfold chunk gath
  rw [base_eq]
  pointwise [k0_pay29]
  exact Finset.sum_congr rfl fun k _ => congrArg (· * tb (ix2 k l)) (bit_value (hitBit c (row (ix2 0 a)) k))

/-- The partial result at one element, for an index of the whole table: the element of the row the index names where that row is
    in device `c`'s block, and zero elsewhere. -/
theorem gath_value (c : Dev nD) (row : Vec Ideal S1x64 .i32) (tb : S4096x512.Idx → EReal) (a : Fin 64) (l : Fin 512)
    (hw : BitVec.toNat (row (ix2 0 a)) < 65536) :
    chunk (F := Ideal) (gath (F := Ideal) c row tb) (ix2 a l)
      = if BitVec.toNat (row (ix2 0 a)) / 4096 = c.val then tb (ix2 ⟨BitVec.toNat (row (ix2 0 a)) % 4096, Nat.mod_lt _ (by decide)⟩ l) else 0 := by
  rw [gath_apply]
  generalize row (ix2 0 a) = w at hw ⊢
  have hz (k : Fin 4096) (h : ¬ BitVec.toNat w = c.val * 4096 + k.val) : ((if hitBit c w k = 1#1 then 1 else 0) * tb (ix2 k l) : EReal) = 0 := by
    rw [if_neg fun e => h ((hitBit_iff c w hw k).mp e), zero_mul]
  by_cases h : BitVec.toNat w / 4096 = c.val
  · rw [if_pos h, Finset.sum_eq_single ⟨BitVec.toNat w % 4096, Nat.mod_lt _ (by decide)⟩]
    · rw [if_pos ((hitBit_iff c w hw _).mpr (by show BitVec.toNat w = c.val * 4096 + BitVec.toNat w % 4096; omega)), one_mul]
    · intro k _ hk
      exact hz k fun e => hk (Fin.ext (by show k.val = BitVec.toNat w % 4096; have := k.isLt; omega))
    · exact fun h => absurd (Finset.mem_univ _) h
  · rw [if_neg h]
    exact Finset.sum_eq_zero fun k _ => hz k fun e => h (by have := k.isLt; omega)

/-! ## The partial results of the exchange -/

variable (m : (ℓ : Loc nD τ sig) → Buf (Elt Ideal) ℓ) (ρ : Dev nD → PrngReg)

/-- The word at column `a` of the row at `off`. -/
theorem rowAt_apply (d : Fin 16) (off : Fin 2 → Nat) (hoff : ∀ a, off a + S1x64.size a ≤ S16x64.size a) (ho : off = ![d.val, 0])
    (x : S16x64.Idx → BitVec 32) (a : Fin 64) : rowAt (F := Ideal) off hoff x (ix2 0 a) = x (ix2 d a) := by
  subst ho
  refine congrArg x (funext fun b => Fin.ext ?_)
  match b with
  | ⟨0, _⟩ => show d.val + 1 * 0 = d.val; omega
  | ⟨1, _⟩ => show 0 + 1 * a.val = a.val; omega

/-- The block in the short format has the block's values. -/
theorem bstg_eq (c : Dev nD) : bstg (F := Ideal) m ρ c = tstg (F := Ideal) m ρ c := by
  unfold bstg
  funext i
  idx_vars i
  pointwise [k0_pay1]

/-- The word at row `d`, column `a` of an index array. -/
abbrev word (x : S16x64.Idx → BitVec 32) (d : Fin 16) (a : Fin 64) : ℕ := (x (ix2 d a)).toNat

/-- What a block gives for an index: its row's element, or zero where the row is in another block. -/
def pick (c : Dev nD) (w : ℕ) (tb : S4096x512.Idx → EReal) (l : Fin 512) : EReal :=
  if w / 4096 = c.val then tb (ix2 ⟨w % 4096, Nat.mod_lt _ (by decide)⟩ l) else 0

theorem partAt_apply (c : Dev nD) (d : Fin 16) (off : Fin 2 → Nat) (hoff : ∀ a, off a + S1x64.size a ≤ S16x64.size a) (ho : off = ![d.val, 0])
    (a : Fin 64) (l : Fin 512) (hw : word (xstg (F := Ideal) m ρ c) d a < 65536) :
    partAt (F := Ideal) m ρ c off hoff (ix2 a l) = pick c (word (xstg (F := Ideal) m ρ c) d a) (tstg (F := Ideal) m ρ c) l := by
  have e := rowAt_apply d off hoff ho (xstg (F := Ideal) m ρ c) a
  have h := gath_value c (rowAt (F := Ideal) off hoff (xstg (F := Ideal) m ρ c)) (bstg (F := Ideal) m ρ c) a l (by rw [e]; exact hw)
  rw [e, bstg_eq] at h
  unfold partAt
  rw [bstg_eq]
  exact h

theorem off1_eq : ∀ (c : Dev nD) (r : Fin 15), k0_off1 c (BitVec.ofNat 32 (1 + r.val)) = ![(dst c r).val, 0] := by decide +kernel
theorem off2_eq : ∀ c : Dev nD, k0_off2 c = ![c.val, 0] := by decide +kernel

end Cert.KernelIdeal.Lookup

end
-- ==== Proof.Total.lean ====
/-
  The sixteen partial results added up, over the extended reals: exactly one device has the row an index names, so the sum is
  that row.
-/
module

public import proofs.«01_k».proof.Proof.Part
public import Idealize.ShloMosaic.Lib.Layout

@[expose] public section

noncomputable section

namespace Cert.KernelIdeal.Lookup

open Cert.KernelIdeal Cert.KernelIdeal.Gen
open Idealize.ShloMosaic
open Idealize.ShloMosaic.TcCoe
open scoped BigOperators

variable (m : (ℓ : Loc nD τ sig) → Buf (Elt Ideal) ℓ) (ρ : Dev nD → PrngReg)

/-- A running total at one element: what it started from there, and what the steps add there. -/
theorem foldl_addIn (c : Dev nD) (i : S64x512.Idx) (l : List (Fin 15)) : ∀ acc : FVec Ideal S64x512 .f32,
    (l.foldl (addIn (F := Ideal) m ρ c) acc) i = (acc i + (l.map fun r => (partTo (F := Ideal) m ρ (src c r) r i : EReal)).sum : EReal) := by
  induction l with
  | nil => intro acc; exact (add_zero (acc i : EReal)).symm
  | cons r l ih =>
    intro acc
    rw [List.foldl_cons, ih, List.map_cons, List.sum_cons]
    exact add_assoc (acc i : EReal) _ _

/-- The row an index names is in one device's block: the own one, or one that exactly one offset leads from. -/
theorem sum_pick (c : Dev nD) (w : ℕ) (hw : w < 65536) (tb : Dev nD → S4096x512.Idx → EReal) (l : Fin 512) (hd : w / 4096 < 16) :
    pick c w (tb c) l + (offs.map fun r => pick (src c r) w (tb (src c r)) l).sum
      = tb ⟨w / 4096, hd⟩ (ix2 ⟨w % 4096, Nat.mod_lt _ (by decide)⟩ l) := by
  have hs : (offs.map fun r => pick (src c r) w (tb (src c r)) l).sum = ∑ r : Fin 15, pick (src c r) w (tb (src c r)) l :=
    (List.sum_ofFn (f := fun r : Fin 15 => pick (src c r) w (tb (src c r)) l) ▸ congrArg List.sum (by rw [List.ofFn_eq_map]) :)
  have hsrc (r : Fin 15) : (src c r).val = (c.val + 15 - r.val) % 16 := by
    have hr := r.isLt
    rw [dst_val, Fin.val_rev]; congr 1; omega
  have hc : c.val < 16 := c.isLt
  have hz (d : Dev nD) (h : w / 4096 ≠ d.val) : pick d w (tb d) l = 0 := if_neg h
  have hp (d : Dev nD) (h : w / 4096 = d.val) : pick d w (tb d) l = tb ⟨w / 4096, hd⟩ (ix2 ⟨w % 4096, Nat.mod_lt _ (by decide)⟩ l) := by
    obtain rfl : d = ⟨w / 4096, hd⟩ := Fin.ext h.symm
    exact if_pos rfl
  rw [hs]
  by_cases h : w / 4096 = c.val
  · rw [hp c h, Finset.sum_eq_zero, add_zero]
    exact fun r _ => hz _ (by have hr := r.isLt; rw [hsrc]; omega)
  · rw [hz c h, zero_add, Finset.sum_eq_single ⟨(c.val + 15 - w / 4096) % 16, by omega⟩]
    · exact hp _ (by rw [hsrc]; show w / 4096 = (c.val + 15 - (c.val + 15 - w / 4096) % 16) % 16; omega)
    · intro r _ hr
      refine hz _ fun e => hr (Fin.ext ?_)
      have hr' := r.isLt
      rw [hsrc] at e
      show r.val = (c.val + 15 - w / 4096) % 16
      omega
    · exact fun h => absurd (Finset.mem_univ _) h

/-- The finished chunk: row `a` of device `c`'s chunk is the row of the whole table that word `(c, a)` of the index array names. -/
theorem red_value (X : S16x64.Idx → BitVec 32) (T : (⟨2, ![65536, 512]⟩ : Shape).Idx → EReal)
    (hX : ∀ c : Dev nD, xstg (F := Ideal) m ρ c = X) (hw : ∀ d a, word X d a < 65536)
    (hT : ∀ c : Dev nD, tstg (F := Ideal) m ρ c = Layout.block ⟨2, ![4096, 512]⟩ ⟨2, ![65536, 512]⟩ 0 16 c T)
    (c : Dev nD) (a : Fin 64) (l : Fin 512) :
    red (F := Ideal) m ρ c (ix2 a l) = T (ix2 ⟨word X c a, hw c a⟩ l) := by
  have hd : word X c a / 4096 < 16 := by have := hw c a; omega
  have hown : partOwn (F := Ideal) m ρ c (ix2 a l) = pick c (word X c a) (tstg (F := Ideal) m ρ c) l := by
    have h := partAt_apply m ρ c c (k0_off2 c) (k0_off2_inb c) (off2_eq c) a l (by rw [hX]; exact hw c a)
    rw [hX] at h
    exact h
  have hto (r : Fin 15) : partTo (F := Ideal) m ρ (src c r) r (ix2 a l) = pick (src c r) (word X c a) (tstg (F := Ideal) m ρ (src c r)) l := by
    have h := partAt_apply m ρ (src c r) c (k0_off1 (src c r) (BitVec.ofNat 32 (1 + r.val))) (k0_off1_inb (src c r) r)
      (by rw [off1_eq, dst_src]) a l (by rw [hX]; exact hw c a)
    rw [hX] at h
    exact h
  unfold red fin
  rw [shapeCast_self, foldl_addIn, hown]
  simp only [hto]
  rw [sum_pick c (word X c a) (hw c a) (fun d => tstg (F := Ideal) m ρ d) l hd, hT]
  refine congrArg T (funext fun b => Fin.ext ?_)
  match b with
  | ⟨0, _⟩ => show word X c a / 4096 * 4096 + word X c a % 4096 = word X c a; omega
  | ⟨1, _⟩ => rfl

/-- The result array over the extended reals: row `i` is the row of the whole table that the `i`-th index names. -/
theorem outAt_value (X : S16x64.Idx → BitVec 32) (T : (⟨2, ![65536, 512]⟩ : Shape).Idx → EReal)
    (hX : ∀ c : Dev nD, xstg (F := Ideal) m ρ c = X) (hw : ∀ d a, word X d a < 65536)
    (hT : ∀ c : Dev nD, tstg (F := Ideal) m ρ c = Layout.block ⟨2, ![4096, 512]⟩ ⟨2, ![65536, 512]⟩ 0 16 c T)
    (i : Fin 1024) (l : Fin 512) (d : Fin 16) (a : Fin 64) (hi : i.val = d.val * 64 + a.val) :
    outAt (F := Ideal) m ρ (ix2 i l) = T (ix2 ⟨word X d a, hw d a⟩ l) := by
  have ha := a.isLt
  have hq : i.val / 64 < nD := by show i.val / 64 < 16; omega
  have hd : (⟨i.val / 64, hq⟩ : Dev nD) = d := Fin.ext (by show i.val / 64 = d.val; omega)
  have hin : within (ix2 i l) = ix2 a l := by
    funext b
    match b with
    | ⟨0, _⟩ => exact Fin.ext (by show i.val % 64 = a.val; omega)
    | ⟨1, _⟩ => rfl
  have h : outAt (F := Ideal) m ρ (ix2 i l) = red (F := Ideal) m ρ ⟨i.val / 64, hq⟩ (within (ix2 i l)) := rfl
  rw [h, hin, hd]
  exact red_value m ρ X T hX hw hT d a l

end Cert.KernelIdeal.Lookup

end
-- ==== Proof.Reference.lean ====
/-
  The reference over the extended reals: where every index names a row of the table, row `i` of its result is the row of the
  table that the `i`-th index names.
-/
module

public import proofs.«01_k».proof.Proof.Gen.ReferenceIdeal.Run
public import proofs.«01_k».proof.Proof.Gen.Pre_in_range_KernelIdeal
public import Idealize.ShloMosaic.Lib.Routing.Ops
public import Idealize.ShloMosaic.Lib.Pointwise
public import Idealize.ShloMosaic.Lib.Pointwise.IndexBridge
public import Idealize.ShloMosaic.Lib.WordCmp

@[expose] public section

noncomputable section

namespace Cert.Rows

open Idealize.ShloMosaic
open Cert.ReferenceIdeal Cert.ReferenceIdeal.Facts₀ Cert.ReferenceIdeal.Facts

/-- The row numbers the reference gathers, in one column: the index array in a row, a negative word counted from the end. -/
abbrev names (X : IVec S16x64 32) : IVec S1024x1 32 :=
  broadcastInDim S1024x1 ![0] bcast_S1024_S1024x1_0
    (select (cmpi .slt (shapeCast _ X shapeCasts_S16x64_S1024) (broadcastInDim S1024 ![] bcast_S_S1024 (constantI S_ 32 0#32)))
      (addi (shapeCast _ X shapeCasts_S16x64_S1024) (broadcastInDim S1024 ![] bcast_S_S1024 (constantI S_ 32 65536#32)))
      (shapeCast _ X shapeCasts_S16x64_S1024))

/-- What the reference's operations make of the table and the index array. -/
abbrev value (T : FVec Ideal S65536x512 .f32) (X : IVec S16x64 32) : FVec Ideal S1024x512 .f32 :=
  Host.gather gather_S65536x512_S1024x1_S1024x512_1_0_n_n_0_1_1512 T (names X)

/-- Row `i` of the reference's result is the row of the table that the `i`-th index names, an index of the table. -/
theorem value_apply (T : FVec Ideal S65536x512 .f32) (X : IVec S16x64 32) (i : Fin 1024) (l : Fin 512) (d : Fin 16) (a : Fin 64)
    (hi : i.val = d.val * 64 + a.val) (hw : (X (ix2 d a)).toNat < 65536) :
    value T X (ix2 i l) = T (ix2 ⟨(X (ix2 d a)).toNat, hw⟩ l) := by
  have h := Routing.gather_row gather_S65536x512_S1024x1_S1024x512_1_0_n_n_0_1_1512 rfl rfl rfl rfl rfl T (names X) i l ⟨(X (ix2 d a)).toNat, hw⟩ (by
        have e : (ix2 (⟨i.val / 64, by omega⟩ : Fin 16) (⟨i.val % 64, by omega⟩ : Fin 64)) = ix2 d a := by
          have := a.isLt
          congr 1
          · exact Fin.ext (by show i.val / 64 = d.val; omega)
          · exact Fin.ext (by show i.val % 64 = a.val; omega)
        rw [← ix2_eq_valueIdx]
        pointwise
        rw [e, WordCmp.cmpi_slt_zero]
        rw [show (decide (2 ^ (32 - 1) ≤ (X (ix2 d a)).toNat)) = false from decide_eq_false (by omega)]
        rw [BitVec.ofNat_toNat, BitVec.setWidth_eq]
        rfl) (by decide)
  rw [← ix2_eq_valueIdx, ← ix2_eq_valueIdx] at h
  exact h

/-- The precondition says that every word of the index array is a row number of the table. -/
theorem in_range (T : FVec Ideal Cert.Pre_in_range_KernelIdeal.S4096x512 .f32) (X : IVec S16x64 32)
    (h : Cert.Pre_in_range_KernelIdeal.fn (F := Ideal) T X = fun _ => 1#1) (d : Fin 16) (a : Fin 64) : (X (ix2 d a)).toNat < 65536 := by
  have hb := congrFun h (ix2 d a)
  have e : IntOp.andi (IntOp.cmpi .sge (X (ix2 d a)) 0#32) (IntOp.cmpi .slt (X (ix2 d a)) (BitVec.ofNat 32 65536)) = 1#1 := by
    refine Eq.trans ?_ hb
    pointwise [Cert.Pre_in_range_KernelIdeal.fn]
  rw [WordCmp.andi_sge_zero_slt_ofNat (by decide), WordCmp.ofBool_eq_one_iff, decide_eq_true_iff] at e
  exact e

end Cert.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range_KernelIdeal
public import proofs.«01_k».proof.Proof.Gen.Pre_in_range_ReferenceIdeal
public import proofs.«01_k».proof.Proof.Bits.Run
public import proofs.«01_k».proof.Proof.Run
public import proofs.«01_k».proof.Proof.Total
public import proofs.«01_k».proof.Proof.Reference
public import Idealize.ShloMosaic.Adequacy
public import Idealize.ShloMosaic.Init

@[expose] public section

noncomputable section

namespace Cert.Proof

open Idealize.ShloMosaic Idealize.SL.Sem Idealize.ShloMosaic.TcCoe

/-- The kernel with its own arithmetic: every run ends, keeps the table and the index array, and leaves every counter at zero. -/
theorem frame_kernel : Cert.quiescent_Kernel := fun m ρ _ =>
  (θ_run Cert.Kernel.defs _ _).mono (fun _ h => ⟨fun c => (h.1 c).2, h.2⟩) (Cert.Kernel.Lookup.run_result (F := Bits) m ρ)

/-- The same of the kernel over the extended reals. -/
theorem frame_ideal : Cert.quiescent_KernelIdeal := fun m ρ _ =>
  (θ_run Cert.KernelIdeal.defs _ _).mono (fun _ h => ⟨fun c => (h.1 c).2, h.2⟩) (Cert.KernelIdeal.Lookup.run_result (F := Ideal) m ρ)

/-- The same where every index is a row number. -/
theorem frame_ideal_pre : Cert.quiescent_KernelIdeal_pre_in_range_KernelIdeal := fun m ρ _ =>
  (θ_run Cert.KernelIdeal.defs _ _).mono (fun _ h => ⟨fun c => (h.1 c).2, h.2⟩) (Cert.KernelIdeal.Lookup.run_result (F := Ideal) m ρ)

/-- The same of the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the reference where every index is a row number. -/
theorem frame_reference_pre : Cert.quiescent_ReferenceIdeal_pre_in_range_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where every index is a row number, every device's result over the extended reals is the reference's result: row `i` of both
    is the row of the whole table that the `i`-th index names. -/
theorem algebraic : Cert.algebraic_KernelIdeal_ReferenceIdeal_pre_in_range_KernelIdeal := by
  intro m ρ m' ρ' hpre hag
  let T := m' (((0 : Dev Cert.ReferenceIdeal.nD).tc : Thread _ Cert.ReferenceIdeal.τ).loc Cert.ReferenceIdeal.main_arg0)
  let X := m' (((0 : Dev Cert.ReferenceIdeal.nD).tc : Thread _ Cert.ReferenceIdeal.τ).loc Cert.ReferenceIdeal.main_arg1)
  have hX (c : Dev Cert.KernelIdeal.nD) : Cert.KernelIdeal.Lookup.xstg (F := Ideal) m ρ c = X :=
    (Cert.KernelIdeal.Lookup.xstg_eq m ρ c).trans (hag c).2
  have hT (c : Dev Cert.KernelIdeal.nD) : Cert.KernelIdeal.Lookup.tstg (F := Ideal) m ρ c
      = Layout.block ⟨2, ![4096, 512]⟩ ⟨2, ![65536, 512]⟩ 0 16 c T := (Cert.KernelIdeal.Lookup.tstg_eq m ρ c).trans (hag c).1
  have hw (d : Fin 16) (a : Fin 64) : (X (ix2 d a)).toNat < 65536 := by
    have h := Cert.Rows.in_range _ _ (hpre 0) d a
    rw [(hag 0).2] at h
    exact h
  have hv : Cert.KernelIdeal.Lookup.outAt (F := Ideal) m ρ = Cert.Rows.value T X := by
    funext j
    obtain ⟨i, l, rfl⟩ : ∃ (i : Fin 1024) (l : Fin 512), j = ix2 i l := ⟨j 0, j 1, eq_ix2 j⟩
    have hi : i.val = (⟨i.val / 64, by omega⟩ : Fin 16).val * 64 + (⟨i.val % 64, by omega⟩ : Fin 64).val := by
      show i.val = i.val / 64 * 64 + i.val % 64
      omega
    rw [Cert.KernelIdeal.Lookup.outAt_value m ρ X T hX hw hT i l _ _ hi, Cert.Rows.value_apply T X i l _ _ hi (hw _ _)]
  refine ⟨Cert.Rows.value T X, ?_, ?_⟩
  · exact (θ_run Cert.KernelIdeal.defs _ _).mono (fun _ h c => ⟨((h.1 c).1.trans hv), (h.1 c).2⟩)
      (Cert.KernelIdeal.Lookup.run_result (F := Ideal) m ρ)
  · exact (θ_run Cert.ReferenceIdeal.defs _ _).mono (fun _ h => h 0) (Cert.ReferenceIdeal.Value.run (F := Ideal) m' ρ')

/-- All the claims, after the side conditions the programs and the precondition state. -/
theorem claim : Cert.Claim :=
  ⟨Cert.Kernel.Gen.facts, Cert.KernelIdeal.Gen.facts, Cert.ReferenceIdeal.Gen.facts, Cert.Pre_in_range_KernelIdeal.Gen.facts,
    Cert.Pre_in_range_ReferenceIdeal.Gen.facts, frame_kernel, frame_ideal, frame_ideal_pre, frame_reference, frame_reference_pre,
    trivial, algebraic⟩

end Cert.Proof

end
